-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S512x1024 : Shape := ⟨2, ![512, 1024]⟩
abbrev S16 : Shape := ⟨1, ![16]⟩
abbrev S_ : Shape := ⟨0, ![]⟩
abbrev S256x4096 : Shape := ⟨2, ![256, 4096]⟩
abbrev S256x1024 : Shape := ⟨2, ![256, 1024]⟩
abbrev S1 : Shape := ⟨1, ![1]⟩
abbrev S32x1024 : Shape := ⟨2, ![32, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .bf16⟩
  | .local _ .vmem, ⟨0, _⟩ => ⟨S1024x4096, .f32⟩
  | .local _ .vmem, ⟨1, _⟩ => ⟨S1024x4096, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_5 : BitVec 32 := 1#32
  let v10 : BitVec 32 := Scalar.muli v7 c1_i32_5
  let v11 : BitVec 32 := Scalar.addi v9 v10
  v11.toNat
def k0_dev2 (d0 : Dev nD) : Nat :=
  let c0_i32_9 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_8 : BitVec 32 := 2#32
  let v13 : BitVec 32 := Scalar.muli v12 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_11 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v18 : BitVec 32 := Scalar.addi v17 c0_i32_11
  let v19 : Index := Scalar.indexCast v18
  let c0 : Index := 0#32
  ![v19.toNat, 0]
def k0_dev3 (d0 : Dev nD) : Nat :=
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_20 : BitVec 32 := 2#32
  let v30 : BitVec 32 := Scalar.muli v2 c2_i32_20
  let v31 : BitVec 32 := Scalar.addi c0_i32_21 v30
  let c1_i32_17 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.subi c1_i32_17 v5
  let c1_i32_22 : BitVec 32 := 1#32
  let v32 : BitVec 32 := Scalar.muli v29 c1_i32_22
  let v33 : BitVec 32 := Scalar.addi v31 v32
  v33.toNat
def k0_dev4 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v41 : BitVec 32 := Scalar.muli v2 c2_i32_30
  let v42 : BitVec 32 := Scalar.addi c0_i32_31 v41
  let c1_i32_27 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v40 : BitVec 32 := Scalar.subi c1_i32_27 v5
  let c1_i32_32 : BitVec 32 := 1#32
  let v43 : BitVec 32 := Scalar.muli v40 c1_i32_32
  let v44 : BitVec 32 := Scalar.addi v42 v43
  v44.toNat
def k0_dev5 (d0 : Dev nD) : Nat :=
  let c0_i32_40 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_39 : BitVec 32 := 2#32
  let v52 : BitVec 32 := Scalar.muli v2 c2_i32_39
  let v53 : BitVec 32 := Scalar.addi c0_i32_40 v52
  let c1_i32_36 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v51 : BitVec 32 := Scalar.subi c1_i32_36 v5
  let c1_i32_41 : BitVec 32 := 1#32
  let v54 : BitVec 32 := Scalar.muli v51 c1_i32_41
  let v55 : BitVec 32 := Scalar.addi v53 v54
  v55.toNat
def k0_dev6 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v63 : BitVec 32 := Scalar.muli v2 c2_i32_47
  let v64 : BitVec 32 := Scalar.addi c0_i32_48 v63
  let c1_i32_45 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v62 : BitVec 32 := Scalar.subi c1_i32_45 v5
  let c1_i32_49 : BitVec 32 := 1#32
  let v65 : BitVec 32 := Scalar.muli v62 c1_i32_49
  let v66 : BitVec 32 := Scalar.addi v64 v65
  v66.toNat
def k0_dev7 (d0 : Dev nD) : Nat :=
  let c0_i32_56 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_55 : BitVec 32 := 2#32
  let v74 : BitVec 32 := Scalar.muli v2 c2_i32_55
  let v75 : BitVec 32 := Scalar.addi c0_i32_56 v74
  let c1_i32_53 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v73 : BitVec 32 := Scalar.subi c1_i32_53 v5
  let c1_i32_57 : BitVec 32 := 1#32
  let v76 : BitVec 32 := Scalar.muli v73 c1_i32_57
  let v77 : BitVec 32 := Scalar.addi v75 v76
  v77.toNat
def k0_dev8 (d0 : Dev nD) : Nat :=
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_63 : BitVec 32 := 2#32
  let v85 : BitVec 32 := Scalar.muli v2 c2_i32_63
  let v86 : BitVec 32 := Scalar.addi c0_i32_64 v85
  let c1_i32_61 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v84 : BitVec 32 := Scalar.subi c1_i32_61 v5
  let c1_i32_65 : BitVec 32 := 1#32
  let v87 : BitVec 32 := Scalar.muli v84 c1_i32_65
  let v88 : BitVec 32 := Scalar.addi v86 v87
  v88.toNat
def k0_dev9 (d0 : Dev nD) : Nat :=
  let c0_i32_72 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_71 : BitVec 32 := 2#32
  let v96 : BitVec 32 := Scalar.muli v2 c2_i32_71
  let v97 : BitVec 32 := Scalar.addi c0_i32_72 v96
  let c1_i32_69 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v95 : BitVec 32 := Scalar.subi c1_i32_69 v5
  let c1_i32_73 : BitVec 32 := 1#32
  let v98 : BitVec 32 := Scalar.muli v95 c1_i32_73
  let v99 : BitVec 32 := Scalar.addi v97 v98
  v99.toNat
def k0_dev10 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v107 : BitVec 32 := Scalar.muli v2 c2_i32_79
  let v108 : BitVec 32 := Scalar.addi c0_i32_80 v107
  let c1_i32_77 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v106 : BitVec 32 := Scalar.subi c1_i32_77 v5
  let c1_i32_81 : BitVec 32 := 1#32
  let v109 : BitVec 32 := Scalar.muli v106 c1_i32_81
  let v110 : BitVec 32 := Scalar.addi v108 v109
  v110.toNat
def k0_dev11 (d0 : Dev nD) : Nat :=
  let c0_i32_93 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_92 : BitVec 32 := 2#32
  let v129 : BitVec 32 := Scalar.muli v2 c2_i32_92
  let v130 : BitVec 32 := Scalar.addi c0_i32_93 v129
  let c1_i32_90 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v128 : BitVec 32 := Scalar.subi c1_i32_90 v5
  let c1_i32_94 : BitVec 32 := 1#32
  let v131 : BitVec 32 := Scalar.muli v128 c1_i32_94
  let v132 : BitVec 32 := Scalar.addi v130 v131
  v132.toNat
def k0_dev12 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v140 : BitVec 32 := Scalar.muli v2 c2_i32_101
  let v141 : BitVec 32 := Scalar.addi c0_i32_102 v140
  let c1_i32_99 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v139 : BitVec 32 := Scalar.subi c1_i32_99 v5
  let c1_i32_103 : BitVec 32 := 1#32
  let v142 : BitVec 32 := Scalar.muli v139 c1_i32_103
  let v143 : BitVec 32 := Scalar.addi v141 v142
  v143.toNat
def k0_dev13 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v151 : BitVec 32 := Scalar.muli v2 c2_i32_109
  let v152 : BitVec 32 := Scalar.addi c0_i32_110 v151
  let c1_i32_107 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v150 : BitVec 32 := Scalar.subi c1_i32_107 v5
  let c1_i32_111 : BitVec 32 := 1#32
  let v153 : BitVec 32 := Scalar.muli v150 c1_i32_111
  let v154 : BitVec 32 := Scalar.addi v152 v153
  v154.toNat
def k0_dev14 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v162 : BitVec 32 := Scalar.muli v2 c2_i32_117
  let v163 : BitVec 32 := Scalar.addi c0_i32_118 v162
  let c1_i32_115 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v161 : BitVec 32 := Scalar.subi c1_i32_115 v5
  let c1_i32_119 : BitVec 32 := 1#32
  let v164 : BitVec 32 := Scalar.muli v161 c1_i32_119
  let v165 : BitVec 32 := Scalar.addi v163 v164
  v165.toNat
def k0_dev15 (d0 : Dev nD) : Nat :=
  let c0_i32_126 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_125 : BitVec 32 := 2#32
  let v173 : BitVec 32 := Scalar.muli v2 c2_i32_125
  let v174 : BitVec 32 := Scalar.addi c0_i32_126 v173
  let c1_i32_123 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v172 : BitVec 32 := Scalar.subi c1_i32_123 v5
  let c1_i32_127 : BitVec 32 := 1#32
  let v175 : BitVec 32 := Scalar.muli v172 c1_i32_127
  let v176 : BitVec 32 := Scalar.addi v174 v175
  v176.toNat
def k0_dev16 (d0 : Dev nD) : Nat :=
  let c0_i32_134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_133 : BitVec 32 := 2#32
  let v184 : BitVec 32 := Scalar.muli v2 c2_i32_133
  let v185 : BitVec 32 := Scalar.addi c0_i32_134 v184
  let c1_i32_131 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v183 : BitVec 32 := Scalar.subi c1_i32_131 v5
  let c1_i32_135 : BitVec 32 := 1#32
  let v186 : BitVec 32 := Scalar.muli v183 c1_i32_135
  let v187 : BitVec 32 := Scalar.addi v185 v186
  v187.toNat
def k0_dev17 (d0 : Dev nD) : Nat :=
  let c0_i32_142 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_141 : BitVec 32 := 2#32
  let v195 : BitVec 32 := Scalar.muli v2 c2_i32_141
  let v196 : BitVec 32 := Scalar.addi c0_i32_142 v195
  let c1_i32_139 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v194 : BitVec 32 := Scalar.subi c1_i32_139 v5
  let c1_i32_143 : BitVec 32 := 1#32
  let v197 : BitVec 32 := Scalar.muli v194 c1_i32_143
  let v198 : BitVec 32 := Scalar.addi v196 v197
  v198.toNat
def k0_dev18 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v206 : BitVec 32 := Scalar.muli v2 c2_i32_149
  let v207 : BitVec 32 := Scalar.addi c0_i32_150 v206
  let c1_i32_147 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v205 : BitVec 32 := Scalar.subi c1_i32_147 v5
  let c1_i32_151 : BitVec 32 := 1#32
  let v208 : BitVec 32 := Scalar.muli v205 c1_i32_151
  let v209 : BitVec 32 := Scalar.addi v207 v208
  v209.toNat
def k0_off2 (d0 : Dev nD) (c0_i32_176 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v232 : BitVec 32 := Scalar.addi v17 c0_i32_176
  let v233 : Index := Scalar.indexCast v232
  let c0_177 : Index := 0#32
  ![v233.toNat, 0]
def k0_off3 (d0 : Dev nD) (c0_i32_179 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v236 : BitVec 32 := Scalar.addi v17 c0_i32_179
  let c0_i32_186 : BitVec 32 := 0#32
  ![v236.toNat, 0]
def k0_dev19 (d0 : Dev nD) : Nat :=
  let c0_i32_184 : BitVec 32 := 0#32
  let c1_i32_180 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v237 : BitVec 32 := Scalar.subi c1_i32_180 v2
  let c2_i32_183 : BitVec 32 := 2#32
  let v238 : BitVec 32 := Scalar.muli v237 c2_i32_183
  let v239 : BitVec 32 := Scalar.addi c0_i32_184 v238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_185 : BitVec 32 := 1#32
  let v240 : BitVec 32 := Scalar.muli v5 c1_i32_185
  let v241 : BitVec 32 := Scalar.addi v239 v240
  v241.toNat
def k0_dev20 (d0 : Dev nD) : Nat :=
  let c0_i32_216 : BitVec 32 := 0#32
  let c1_i32_212 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v269 : BitVec 32 := Scalar.subi c1_i32_212 v2
  let c2_i32_215 : BitVec 32 := 2#32
  let v270 : BitVec 32 := Scalar.muli v269 c2_i32_215
  let v271 : BitVec 32 := Scalar.addi c0_i32_216 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_217 : BitVec 32 := 1#32
  let v272 : BitVec 32 := Scalar.muli v5 c1_i32_217
  let v273 : BitVec 32 := Scalar.addi v271 v272
  v273.toNat
def k0_dev21 (d0 : Dev nD) : Nat :=
  let c0_i32_248 : BitVec 32 := 0#32
  let c1_i32_244 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v301 : BitVec 32 := Scalar.subi c1_i32_244 v2
  let c2_i32_247 : BitVec 32 := 2#32
  let v302 : BitVec 32 := Scalar.muli v301 c2_i32_247
  let v303 : BitVec 32 := Scalar.addi c0_i32_248 v302
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_249 : BitVec 32 := 1#32
  let v304 : BitVec 32 := Scalar.muli v5 c1_i32_249
  let v305 : BitVec 32 := Scalar.addi v303 v304
  v305.toNat
def k0_dev22 (d0 : Dev nD) : Nat :=
  let c0_i32_280 : BitVec 32 := 0#32
  let c1_i32_276 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v333 : BitVec 32 := Scalar.subi c1_i32_276 v2
  let c2_i32_279 : BitVec 32 := 2#32
  let v334 : BitVec 32 := Scalar.muli v333 c2_i32_279
  let v335 : BitVec 32 := Scalar.addi c0_i32_280 v334
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_281 : BitVec 32 := 1#32
  let v336 : BitVec 32 := Scalar.muli v5 c1_i32_281
  let v337 : BitVec 32 := Scalar.addi v335 v336
  v337.toNat
def k0_dev23 (d0 : Dev nD) : Nat :=
  let c0_i32_312 : BitVec 32 := 0#32
  let c1_i32_308 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v365 : BitVec 32 := Scalar.subi c1_i32_308 v2
  let c2_i32_311 : BitVec 32 := 2#32
  let v366 : BitVec 32 := Scalar.muli v365 c2_i32_311
  let v367 : BitVec 32 := Scalar.addi c0_i32_312 v366
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_313 : BitVec 32 := 1#32
  let v368 : BitVec 32 := Scalar.muli v5 c1_i32_313
  let v369 : BitVec 32 := Scalar.addi v367 v368
  v369.toNat
def k0_dev24 (d0 : Dev nD) : Nat :=
  let c0_i32_344 : BitVec 32 := 0#32
  let c1_i32_340 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v397 : BitVec 32 := Scalar.subi c1_i32_340 v2
  let c2_i32_343 : BitVec 32 := 2#32
  let v398 : BitVec 32 := Scalar.muli v397 c2_i32_343
  let v399 : BitVec 32 := Scalar.addi c0_i32_344 v398
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_345 : BitVec 32 := 1#32
  let v400 : BitVec 32 := Scalar.muli v5 c1_i32_345
  let v401 : BitVec 32 := Scalar.addi v399 v400
  v401.toNat
def k0_dev25 (d0 : Dev nD) : Nat :=
  let c0_i32_376 : BitVec 32 := 0#32
  let c1_i32_372 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v429 : BitVec 32 := Scalar.subi c1_i32_372 v2
  let c2_i32_375 : BitVec 32 := 2#32
  let v430 : BitVec 32 := Scalar.muli v429 c2_i32_375
  let v431 : BitVec 32 := Scalar.addi c0_i32_376 v430
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_377 : BitVec 32 := 1#32
  let v432 : BitVec 32 := Scalar.muli v5 c1_i32_377
  let v433 : BitVec 32 := Scalar.addi v431 v432
  v433.toNat
def k0_dev26 (d0 : Dev nD) : Nat :=
  let c0_i32_408 : BitVec 32 := 0#32
  let c1_i32_404 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v461 : BitVec 32 := Scalar.subi c1_i32_404 v2
  let c2_i32_407 : BitVec 32 := 2#32
  let v462 : BitVec 32 := Scalar.muli v461 c2_i32_407
  let v463 : BitVec 32 := Scalar.addi c0_i32_408 v462
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_409 : BitVec 32 := 1#32
  let v464 : BitVec 32 := Scalar.muli v5 c1_i32_409
  let v465 : BitVec 32 := Scalar.addi v463 v464
  v465.toNat
def k0_dev27 (d0 : Dev nD) : Nat :=
  let c0_i32_441 : BitVec 32 := 0#32
  let c1_i32_437 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v493 : BitVec 32 := Scalar.subi c1_i32_437 v2
  let c2_i32_440 : BitVec 32 := 2#32
  let v494 : BitVec 32 := Scalar.muli v493 c2_i32_440
  let v495 : BitVec 32 := Scalar.addi c0_i32_441 v494
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_442 : BitVec 32 := 1#32
  let v496 : BitVec 32 := Scalar.muli v5 c1_i32_442
  let v497 : BitVec 32 := Scalar.addi v495 v496
  v497.toNat
def k0_dev28 (d0 : Dev nD) : Nat :=
  let c0_i32_473 : BitVec 32 := 0#32
  let c1_i32_469 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v525 : BitVec 32 := Scalar.subi c1_i32_469 v2
  let c2_i32_472 : BitVec 32 := 2#32
  let v526 : BitVec 32 := Scalar.muli v525 c2_i32_472
  let v527 : BitVec 32 := Scalar.addi c0_i32_473 v526
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_474 : BitVec 32 := 1#32
  let v528 : BitVec 32 := Scalar.muli v5 c1_i32_474
  let v529 : BitVec 32 := Scalar.addi v527 v528
  v529.toNat
def k0_dev29 (d0 : Dev nD) : Nat :=
  let c0_i32_505 : BitVec 32 := 0#32
  let c1_i32_501 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v557 : BitVec 32 := Scalar.subi c1_i32_501 v2
  let c2_i32_504 : BitVec 32 := 2#32
  let v558 : BitVec 32 := Scalar.muli v557 c2_i32_504
  let v559 : BitVec 32 := Scalar.addi c0_i32_505 v558
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_506 : BitVec 32 := 1#32
  let v560 : BitVec 32 := Scalar.muli v5 c1_i32_506
  let v561 : BitVec 32 := Scalar.addi v559 v560
  v561.toNat
def k0_dev30 (d0 : Dev nD) : Nat :=
  let c0_i32_537 : BitVec 32 := 0#32
  let c1_i32_533 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v589 : BitVec 32 := Scalar.subi c1_i32_533 v2
  let c2_i32_536 : BitVec 32 := 2#32
  let v590 : BitVec 32 := Scalar.muli v589 c2_i32_536
  let v591 : BitVec 32 := Scalar.addi c0_i32_537 v590
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_538 : BitVec 32 := 1#32
  let v592 : BitVec 32 := Scalar.muli v5 c1_i32_538
  let v593 : BitVec 32 := Scalar.addi v591 v592
  v593.toNat
def k0_dev31 (d0 : Dev nD) : Nat :=
  let c0_i32_569 : BitVec 32 := 0#32
  let c1_i32_565 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v621 : BitVec 32 := Scalar.subi c1_i32_565 v2
  let c2_i32_568 : BitVec 32 := 2#32
  let v622 : BitVec 32 := Scalar.muli v621 c2_i32_568
  let v623 : BitVec 32 := Scalar.addi c0_i32_569 v622
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_570 : BitVec 32 := 1#32
  let v624 : BitVec 32 := Scalar.muli v5 c1_i32_570
  let v625 : BitVec 32 := Scalar.addi v623 v624
  v625.toNat
def k0_dev32 (d0 : Dev nD) : Nat :=
  let c0_i32_601 : BitVec 32 := 0#32
  let c1_i32_597 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v653 : BitVec 32 := Scalar.subi c1_i32_597 v2
  let c2_i32_600 : BitVec 32 := 2#32
  let v654 : BitVec 32 := Scalar.muli v653 c2_i32_600
  let v655 : BitVec 32 := Scalar.addi c0_i32_601 v654
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_602 : BitVec 32 := 1#32
  let v656 : BitVec 32 := Scalar.muli v5 c1_i32_602
  let v657 : BitVec 32 := Scalar.addi v655 v656
  v657.toNat
def k0_dev33 (d0 : Dev nD) : Nat :=
  let c0_i32_633 : BitVec 32 := 0#32
  let c1_i32_629 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v685 : BitVec 32 := Scalar.subi c1_i32_629 v2
  let c2_i32_632 : BitVec 32 := 2#32
  let v686 : BitVec 32 := Scalar.muli v685 c2_i32_632
  let v687 : BitVec 32 := Scalar.addi c0_i32_633 v686
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_634 : BitVec 32 := 1#32
  let v688 : BitVec 32 := Scalar.muli v5 c1_i32_634
  let v689 : BitVec 32 := Scalar.addi v687 v688
  v689.toNat
def k0_dev34 (d0 : Dev nD) : Nat :=
  let c0_i32_665 : BitVec 32 := 0#32
  let c1_i32_661 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v717 : BitVec 32 := Scalar.subi c1_i32_661 v2
  let c2_i32_664 : BitVec 32 := 2#32
  let v718 : BitVec 32 := Scalar.muli v717 c2_i32_664
  let v719 : BitVec 32 := Scalar.addi c0_i32_665 v718
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_666 : BitVec 32 := 1#32
  let v720 : BitVec 32 := Scalar.muli v5 c1_i32_666
  let v721 : BitVec 32 := Scalar.addi v719 v720
  v721.toNat
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | .hbm, ⟨4, _⟩ => ⟨S1024x1024, .bf16⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Loops.lean ====
/-
The kernel's body, written as loops.

The printed body is straight-line: the sixteen slab copies, the sixteen reductions and the sixteen last
waits are written out one after another. Here each is one definition at a symbolic slab `k`, repeated over
the list of slabs, and the printed body is shown to be that program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Dcol

open Cert.KernelIdeal Cert.KernelIdeal.Gen
open Idealize.ShloMosaic Idealize.ShloMosaic.TcCoe Idealize.SL.Sem

variable {F : FTy → Type} [FloatOps F]

/-! ## The buffers, their slabs, the semaphores -/

/-- The staged block of `dy`. -/
abbrev aM : Memref sig .tc .vmem S1024x4096 .f32 := Memref.whole cc0_stg0_0
/-- The staged block of `W`. -/
abbrev wM : Memref sig .tc .vmem S1024x4096 .f32 := Memref.whole cc0_stg1_0
/-- The staged result. -/
abbrev oM : Memref sig .tc .vmem S1024x1024 .bf16 := Memref.whole cc0_stg2_0
/-- The device's own partial product: half of the rows. -/
abbrev pM : Memref sig .tc .vmem S512x1024 .bf16 := Memref.whole cc0_scratch0
/-- Where the neighbour along `y` puts its partial product. -/
abbrev yM : Memref sig .tc .vmem S512x1024 .bf16 := Memref.whole cc0_scratch1

/-- Slab `k` of a buffer of 512 rows lies inside it. -/
theorem slab_inb (k : Fin 16) : ∀ a, (![32 * k.val, 0] : Fin 2 → Nat) a + S32x1024.size a ≤ S512x1024.size a := by
  revert k; decide +kernel

/-- Rows `[32 k, 32 k + 32)` of a buffer of 512 rows. -/
abbrev slabR (k : Fin 16) : Rect S512x1024 := Rect.unit (s := S512x1024) ![32 * k.val, 0] S32x1024.size (slab_inb k)

/-- Those rows are whole packed words. -/
theorem slab_words (k : Fin 16) : (slabR k).WholeWords (EltTy.packing .bf16) := by
  revert k; decide +kernel

/-- Slab `k` of the device's own half of the result, as the copies name it. -/
abbrev ownR (d0 : Dev nD) (k : Fin 16) : Rect S1024x1024 :=
  Rect.unit (s := S1024x1024) (k0_off3 d0 (BitVec.ofNat 32 (32 * k.val))) S32x1024.size (k0_off3_inb d0 k)

/-- The same slab, as the loads and stores name it. -/
abbrev ownR' (d0 : Dev nD) (k : Fin 16) : Rect S1024x1024 :=
  Rect.unit (s := S1024x1024) (k0_off2 d0 (BitVec.ofNat 32 (32 * k.val))) S32x1024.size (k0_off2_inb d0 k)

abbrev pS (k : Fin 16) : Memref sig .tc .vmem S32x1024 .bf16 := pM.slice (slabR k) (fun _ => rfl)
abbrev yS (k : Fin 16) : Memref sig .tc .vmem S32x1024 .bf16 := yM.slice (slabR k) (fun _ => rfl)
abbrev oS (d0 : Dev nD) (k : Fin 16) : Memref sig .tc .vmem S32x1024 .bf16 := oM.slice (ownR d0 k) (fun _ => rfl)

theorem sem_inb (k : Fin 16) : ∀ a, (![k.val] : Fin 1 → Nat) a + S1.size a ≤ S16.size a := by
  revert k; decide +kernel

/-- Semaphore `k` of an array of sixteen. -/
abbrev semAt (A : DmaSems sig S16) (k : Fin 16) : DmaSem sig :=
  ((A.slice (Rect.unit (s := S16) ![k.val] S1.size (sem_inb k))).squeeze S_ squeezes_S1_S_).sem

/-- The runtime's barrier semaphore. -/
abbrev barS : Sem sig := (SemArray.scalar (sig.barrier 0 rfl) : Sems sig S_).sem
abbrev ysS (k : Fin 16) : DmaSem sig := semAt cc0_scratch2 k
abbrev yrS (k : Fin 16) : DmaSem sig := semAt cc0_scratch3 k
abbrev xsS (k : Fin 16) : DmaSem sig := semAt cc0_scratch4 k
abbrev xrS (k : Fin 16) : DmaSem sig := semAt cc0_scratch5 k

/-- The neighbours, as the body computes them. -/
abbrev devY (d0 : Dev nD) : Dev nD := ⟨k0_dev3 d0, k0_dev3_lt d0⟩
abbrev devX (d0 : Dev nD) : Dev nD := ⟨k0_dev19 d0, k0_dev19_lt d0⟩

/-! ## The pieces of the body -/

/-- Repeat `f` along a list of slabs. -/
def rep (f : Fin 16 → Prog (TpuEff nD τ sig (Elt F) Λ₀ .tc) PUnit) : List (Fin 16) → Prog (TpuEff nD τ sig (Elt F) Λ₀ .tc) PUnit
  | [] => pure ⟨⟩
  | k :: ks => do f k; rep f ks

/-- Start the copy of slab `k` of the partial product to the neighbour along `y`. -/
def sendY (d0 : Dev nD) (k : Fin 16) : Prog (TpuEff nD τ sig (Elt F) Λ₀ .tc) PUnit :=
  Prog.lift (.enqueueDma (pS k) (.remote (Dev.tc (devY d0)) (yS k) (.dma (ysS k))) (.dma (yrS k))
    ((Memref.isWhole_whole _ : pM.IsWhole).wordExact_slice rfl _ (slab_words k))
    ((Memref.isWhole_whole _ : yM.IsWhole).wordExact_slice rfl _ (slab_words k)) ⟨⟨rfl, Or.inl rfl⟩, trivial⟩)

/-- Slab `k`: wait for both copies along `y`, add, store, and start the copy along `x`. -/
def reduce (d0 : Dev nD) (k : Fin 16) : Prog (TpuEff nD τ sig (Elt F) Λ₀ .tc) PUnit := do
  Prog.lift (.waitDma2 (ysS k) (yS k) (pS k)
    ((Memref.isWhole_whole _ : yM.IsWhole).wordExact_slice rfl _ (slab_words k))
    ((Memref.isWhole_whole _ : pM.IsWhole).wordExact_slice rfl _ (slab_words k)))
  Prog.lift (.waitDma2 (yrS k) (pS k) (yS k)
    ((Memref.isWhole_whole _ : pM.IsWhole).wordExact_slice rfl _ (slab_words k))
    ((Memref.isWhole_whole _ : yM.IsWhole).wordExact_slice rfl _ (slab_words k)))
  let a : Vec F S32x1024 .bf16 ← Prog.lift (.load pM (slabR k).toLoadRect (View.loadsAt_vmem h_S32x1024))
  let b : Vec F S32x1024 .bf16 ← Prog.lift (.load yM (slabR k).toLoadRect (View.loadsAt_vmem h_S32x1024))
  let _o : Vec F S32x1024 .bf16 ← Prog.lift (.load oM (ownR' d0 k).toLoadRect (View.loadsAt_vmem h_S32x1024))
  Prog.lift (.store oM (ownR' d0 k) (k0_pay4 a b) Finset.univ
    (View.stores_vmem h_S32x1024 ((Memref.isWhole_whole _ : oM.IsWhole).storeExact_slice rfl _ (k0_off2_packedbf16 d0 k)) (fun _ => rfl)) (.inl rfl))
  Prog.lift (.enqueueDma (oS d0 k) (.remote (Dev.tc (devX d0)) (oS d0 k) (.dma (xsS k))) (.dma (xrS k))
    ((Memref.isWhole_whole _ : oM.IsWhole).wordExact_slice rfl _ (k0_off3_wordsbf16 d0 k))
    ((Memref.isWhole_whole _ : oM.IsWhole).wordExact_slice rfl _ (k0_off3_wordsbf16 d0 k)) ⟨⟨rfl, Or.inl rfl⟩, trivial⟩)

/-- Slab `k`: wait for both copies along `x`. -/
def finish (d0 : Dev nD) (k : Fin 16) : Prog (TpuEff nD τ sig (Elt F) Λ₀ .tc) PUnit := do
  Prog.lift (.waitDma2 (xsS k) (oS d0 k) (oS d0 k)
    ((Memref.isWhole_whole _ : oM.IsWhole).wordExact_slice rfl _ (k0_off3_wordsbf16 d0 k))
    ((Memref.isWhole_whole _ : oM.IsWhole).wordExact_slice rfl _ (k0_off3_wordsbf16 d0 k)))
  Prog.lift (.waitDma2 (xrS k) (oS d0 k) (oS d0 k)
    ((Memref.isWhole_whole _ : oM.IsWhole).wordExact_slice rfl _ (k0_off3_wordsbf16 d0 k))
    ((Memref.isWhole_whole _ : oM.IsWhole).wordExact_slice rfl _ (k0_off3_wordsbf16 d0 k)))

abbrev wR : Rect S1024x4096 := Rect.unit (s := S1024x4096) ![0, 0] S1024x4096.size inb_S1024x4096_S1024x4096_0_0
/-- The rows of `dy` of chunk `r` of the device's half. -/
abbrev aR (d0 : Dev nD) (r : Fin 2) : Rect S1024x4096 :=
  Rect.unit (s := S1024x4096) (k0_off1 d0 (BitVec.ofNat 32 (256 * r.val))) S256x4096.size (k0_off1_inb d0 r)
abbrev pR0 : Rect S512x1024 := Rect.unit (s := S512x1024) ![0, 0] S256x1024.size inb_S512x1024_S256x1024_0_0
abbrev pR1 : Rect S512x1024 := Rect.unit (s := S512x1024) ![256, 0] S256x1024.size inb_S512x1024_S256x1024_256_0

/-- The handshake with the two neighbours, and the first chunk's product before it is waited for. -/
def opening (d0 : Dev nD) : Prog (TpuEff nD τ sig (Elt F) Λ₀ .tc) PUnit := do
  semSignalWord (⟨k0_dev1 d0, k0_dev1_lt d0⟩ : Dev nD) barS 1#32
  semSignalWord (⟨k0_dev2 d0, k0_dev2_lt d0⟩ : Dev nD) barS 1#32
  let a : Vec F S256x4096 .f32 ← Prog.lift (.load aM (aR d0 0).toLoadRect (View.loadsAt_vmem h_S256x4096))
  let w : Vec F S1024x4096 .f32 ← Prog.lift (.load wM wR.toLoadRect (View.loadsAt_vmem h_S1024x4096))
  let _p : Vec F S256x1024 .bf16 ← Prog.lift (.load pM pR0.toLoadRect (View.loadsAt_vmem h_S256x1024))
  Prog.lift (.store pM pR0 (k0_pay1 a w) Finset.univ
    (View.stores_vmem h_S256x1024 ((Memref.isWhole_whole _ : pM.IsWhole).storeExact_slice rfl _ packedbf16_S512x1024_S256x1024_0_0) (fun _ => rfl)) (.inl rfl))
  semWaitWord barS 2#32

/-- The second chunk's product. -/
def second (d0 : Dev nD) : Prog (TpuEff nD τ sig (Elt F) Λ₀ .tc) PUnit := do
  let a : Vec F S256x4096 .f32 ← Prog.lift (.load aM (aR d0 1).toLoadRect (View.loadsAt_vmem h_S256x4096))
  let w : Vec F S1024x4096 .f32 ← Prog.lift (.load wM wR.toLoadRect (View.loadsAt_vmem h_S1024x4096))
  let _p : Vec F S256x1024 .bf16 ← Prog.lift (.load pM pR1.toLoadRect (View.loadsAt_vmem h_S256x1024))
  Prog.lift (.store pM pR1 (k0_pay3 (k0_pay2 a) w) Finset.univ
    (View.stores_vmem h_S256x1024 ((Memref.isWhole_whole _ : pM.IsWhole).storeExact_slice rfl _ packedbf16_S512x1024_S256x1024_256_0) (fun _ => rfl)) (.inl rfl))

/-- The slabs of the first chunk, of the second, and all sixteen. -/
abbrev ks0 : List (Fin 16) := [0, 1, 2, 3, 4, 5, 6, 7]
abbrev ks1 : List (Fin 16) := [8, 9, 10, 11, 12, 13, 14, 15]
abbrev ksA : List (Fin 16) := [0, 1, 2, 3, 4, 5, 6, 7, 8, 9, 10, 11, 12, 13, 14, 15]

/-- The body on device `d0`. -/
def run (d0 : Dev nD) : Prog (TpuEff nD τ sig (Elt F) Λ₀ .tc) PUnit := do
  opening d0
  rep (sendY d0) ks0
  second d0
  rep (sendY d0) ks1
  rep (reduce d0) ksA
  rep (finish d0) ksA

set_option maxRecDepth 65536 in
/-- The printed body reads its device's id and is then `run`. -/
theorem body_eq :
    cc0_body (F := F) aM (Memref.isWhole_whole _) wM (Memref.isWhole_whole _) oM (Memref.isWhole_whole _) pM (Memref.isWhole_whole _)
      yM (Memref.isWhole_whole _) cc0_scratch2 cc0_scratch3 cc0_scratch4 cc0_scratch5
      = (do let d0 : Dev nD ← Prog.lift .deviceId; run d0) := rfl

end Cert.Dcol

end
-- ==== Proof.Slabs.lean ====
/-
The mesh, the slabs of the buffers, and what the buffers hold.

Device `c` is `(x, y) = (c / 2, c % 2)`. Its neighbour along `y` holds the other half of the contracted axis
for the same half of the rows; its neighbour along `x` works on the other half of the rows.
-/
module

public import proofs.«01_k».proof.Proof.Loops

@[expose] public section

noncomputable section

namespace Cert.Dcol

open Cert.KernelIdeal Cert.KernelIdeal.Gen
open Idealize.ShloMosaic Idealize.ShloMosaic.TcCoe Idealize.SL.Sem

variable {F : FTy → Type} [FloatOps F]

/-! ## The neighbours -/

set_option backward.proofsInPublic true in
/-- The neighbour along `y`. -/
def yp (c : Dev nD) : Dev nD := ⟨(2 * (c.val / 2) + 1) - (c.val % 2), by revert c; decide⟩
set_option backward.proofsInPublic true in
/-- The neighbour along `x`. -/
def xp (c : Dev nD) : Dev nD := ⟨((c.val % 2) + 2) - (2 * (c.val / 2)), by revert c; decide⟩

theorem yp_yp (c : Dev nD) : yp (yp c) = c := by revert c; decide
theorem xp_xp (c : Dev nD) : xp (xp c) = c := by revert c; decide

/-- The two devices of a column work on different halves. -/
theorem xp_div (c : Dev nD) : (xp c).val / 2 = 1 - c.val / 2 := by revert c; decide
theorem div_le (c : Dev nD) : c.val / 2 ≤ 1 := by revert c; decide

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem devY_eq (c : Dev nD) : devY c = yp c := Fin.ext (k0_dev3_eq c)
theorem devX_eq (c : Dev nD) : devX c = xp c := Fin.ext (k0_dev19_eq c)

/-! ## Where the slabs sit -/

/-- The rectangles of the loads and stores, and of the copies, of a device's own half are the same. -/
theorem ownR'_eq (c : Dev nD) (k : Fin 16) : (ownR' c k).set = (ownR c k).set := by
  ext i
  rw [Rect.mem_set_unit, Rect.mem_set_unit, k0_off2_eq, k0_off3_eq]

/-- A row of the result lies in slab `k` of device `c`'s half iff it is one of its 32 rows. -/
theorem mem_ownR (c : Dev nD) (k : Fin 16) (i : S1024x1024.Idx) :
    i ∈ (ownR c k).set ↔ 512 * (c.val / 2) + 32 * k.val ≤ (i 0).val ∧ (i 0).val < 512 * (c.val / 2) + 32 * k.val + 32 := by
  rw [Rect.mem_set_unit, k0_off3_eq]
  constructor
  · intro h; exact h 0
  · intro h a
    match a with
    | ⟨0, _⟩ => exact h
    | ⟨1, _⟩ => exact ⟨Nat.zero_le _, by have := (i 1).isLt; simpa using this⟩

/-- A row of a half lies in slab `k` iff it is one of its 32 rows. -/
theorem mem_slabR (k : Fin 16) (i : S512x1024.Idx) :
    i ∈ (slabR k).set ↔ 32 * k.val ≤ (i 0).val ∧ (i 0).val < 32 * k.val + 32 := by
  rw [Rect.mem_set_unit]
  constructor
  · intro h; exact h 0
  · intro h a
    match a with
    | ⟨0, _⟩ => exact h
    | ⟨1, _⟩ => exact ⟨Nat.zero_le _, by have := (i 1).isLt; simpa using this⟩

theorem mem_pR0 (i : S512x1024.Idx) : i ∈ pR0.set ↔ (i 0).val < 256 := by
  rw [Rect.mem_set_unit]
  constructor
  · intro h; have := (h 0).2; simpa using this
  · intro h a
    match a with
    | ⟨0, _⟩ => exact ⟨Nat.zero_le _, by simpa using h⟩
    | ⟨1, _⟩ => exact ⟨Nat.zero_le _, by have := (i 1).isLt; simpa using this⟩

theorem mem_pR1 (i : S512x1024.Idx) : i ∈ pR1.set ↔ 256 ≤ (i 0).val := by
  rw [Rect.mem_set_unit]
  constructor
  · intro h; have := (h 0).1; simpa using this
  · intro h a
    match a with
    | ⟨0, _⟩ => exact ⟨by simpa using h, by have := (i 0).isLt; simpa using this⟩
    | ⟨1, _⟩ => exact ⟨Nat.zero_le _, by have := (i 1).isLt; simpa using this⟩

theorem slab_disjoint {k k' : Fin 16} (h : k ≠ k') : Disjoint (slabR k).set (slabR k').set := by
  rw [Finset.disjoint_left]
  intro i hi hi'
  rw [mem_slabR] at hi hi'
  have : k.val ≠ k'.val := fun e => h (Fin.ext e)
  omega

/-- The slabs of a list that covers the rows `[lo, hi)` exactly are those rows. -/
theorem slab_cover (ks : List (Fin 16)) (lo hi : ℕ) (hl : hi ≤ 16) (h : ∀ k : Fin 16, k ∈ ks ↔ lo ≤ k.val ∧ k.val < hi)
    (S : Finset S512x1024.Idx) (hS : ∀ i, i ∈ S ↔ 32 * lo ≤ (i 0).val ∧ (i 0).val < 32 * hi) :
    ks.toFinset.biUnion (fun k => (slabR k).set) = S := by
  ext i
  rw [Finset.mem_biUnion, hS]
  constructor
  · rintro ⟨k, hk, hi⟩
    rw [mem_slabR] at hi
    have := (h k).mp (List.mem_toFinset.mp hk)
    omega
  · intro hi
    have hlt : (i 0).val / 32 < 16 := by omega
    refine ⟨⟨(i 0).val / 32, hlt⟩, List.mem_toFinset.mpr ((h _).mpr ⟨?_, ?_⟩), (mem_slabR _ _).mpr ⟨?_, ?_⟩⟩ <;> simp only <;> omega

theorem slab_cover0 : ks0.toFinset.biUnion (fun k => (slabR k).set) = pR0.set :=
  slab_cover ks0 0 8 (by decide) (by decide) _ (fun i => by rw [mem_pR0]; omega)
theorem slab_cover1 : ks1.toFinset.biUnion (fun k => (slabR k).set) = pR1.set :=
  slab_cover ks1 8 16 (by decide) (by decide) _ (fun i => by rw [mem_pR1]; have : (i 0).val < 512 := (i 0).isLt; omega)
theorem slab_coverA : (Finset.univ : Finset (Fin 16)).biUnion (fun k => (slabR k).set) = Finset.univ := by
  rw [show (Finset.univ : Finset (Fin 16)) = ksA.toFinset by decide]
  exact slab_cover ksA 0 16 (by decide) (by decide) _ (fun i => by
    have : (i 0).val < 512 := (i 0).isLt
    simp only [Finset.mem_univ, true_iff]; omega)

/-- The 32 slabs of the result: each device's half is its own and its neighbour's. -/
theorem own_disjoint (c : Dev nD) {q q' : Bool × Fin 16} (h : q ≠ q') :
    Disjoint (ownR (if q.1 then xp c else c) q.2).set (ownR (if q'.1 then xp c else c) q'.2).set := by
  rw [Finset.disjoint_left]
  intro i hi hi'
  rw [mem_ownR] at hi hi'
  obtain ⟨b, k⟩ := q
  obtain ⟨b', k'⟩ := q'
  have hx := xp_div c
  have hc := div_le c
  have hk : b = b' → k.val ≠ k'.val := fun e e' => h (by rw [e, Fin.ext e'])
  have h1 := k.isLt
  have h2 := k'.isLt
  cases b <;> cases b' <;> simp only [if_true, if_false, Bool.false_eq_true, hx] at hi hi' hk <;>
    simp only [forall_const, reduceCtorEq, IsEmpty.forall_iff] at hk <;> omega

theorem own_cover (c : Dev nD) :
    (Finset.univ : Finset (Bool × Fin 16)).biUnion (fun q => (ownR (if q.1 then xp c else c) q.2).set) = Finset.univ := by
  ext i
  simp only [Finset.mem_biUnion, Finset.mem_univ, true_and, iff_true]
  have hx := xp_div c
  have hc := div_le c
  have hi : (i 0).val < 1024 := (i 0).isLt
  by_cases hh : (i 0).val / 512 = c.val / 2
  · refine ⟨(false, ⟨(i 0).val % 512 / 32, by omega⟩), (mem_ownR _ _ _).mpr ?_⟩
    simp only [Bool.false_eq_true, if_false]
    omega
  · refine ⟨(true, ⟨(i 0).val % 512 / 32, by omega⟩), (mem_ownR _ _ _).mpr ?_⟩
    simp only [if_true, hx]
    omega

/-! ## What the buffers hold -/

/-- The rows of `dy` of chunk `r`. -/
def chunk (c : Dev nD) (r : Fin 2) (a : Vec F S1024x4096 .f32) : Vec F S256x4096 .f32 :=
  (aM : Memref sig .tc .vmem S1024x4096 .f32).view.readAt (Elt F) (aR c r).toLoadRect a

/-- The partial product of device `c` from its blocks of `dy` and `W`: its half of the rows, two chunks of 256. -/
def part (c : Dev nD) (a w : Vec F S1024x4096 .f32) : Vec F S512x1024 .bf16 := fun i =>
  if h : (i 0).val < 256 then
    k0_pay1 (chunk c 0 a) w (Shape.pair (d := ![256, 1024]) ⟨(i 0).val, h⟩ (i 1))
  else
    k0_pay3 (k0_pay2 (chunk c 1 a)) w (Shape.pair (d := ![256, 1024]) ⟨(i 0).val - 256, by
      have : (i 0).val < 512 := (i 0).isLt
      show _ < 256
      omega⟩ (i 1))

/-- The first store puts the first chunk's product where the partial product has it, -/
theorem write_p0 (c : Dev nD) (a w : Vec F S1024x4096 .f32) (f : Vec F S512x1024 .bf16) (i : S512x1024.Idx) (hi : i ∈ pR0.set) :
    ((pM : Memref sig .tc .vmem S512x1024 .bf16).access pR0 : View sig .tc _ _ _).write (Elt F) f (k0_pay1 (chunk c 0 a) w) Finset.univ i
      = part c a w i := by
  rw [← Rect.map_emb_univ] at hi
  obtain ⟨x, -, rfl⟩ := Finset.mem_map.mp hi
  have hx0 : (x 0).val < 256 := (x 0).isLt
  refine (View.write_emb_of_mem (v := ((pM : Memref sig .tc .vmem S512x1024 .bf16).access pR0 : View sig .tc _ _ _)) (Val := Elt F) f _ (Finset.mem_univ x)).trans ?_
  have h0 : ((pR0.emb x) 0).val = (x 0).val := by show 0 + 1 * (x 0).val = _; omega
  unfold part
  rw [dif_pos (by rw [h0]; exact hx0)]
  show k0_pay1 (chunk c 0 a) w x = _
  congr 1
  refine (Shape.pair_eta (d := ![256, 1024]) x).symm.trans ?_
  congr 1
  · exact Fin.ext h0.symm
  · exact Fin.ext (show (x 1).val = 0 + 1 * (x 1).val by omega)

/-- and the second store the second's. -/
theorem write_p1 (c : Dev nD) (a w : Vec F S1024x4096 .f32) (f : Vec F S512x1024 .bf16) (i : S512x1024.Idx) (hi : i ∈ pR1.set) :
    ((pM : Memref sig .tc .vmem S512x1024 .bf16).access pR1 : View sig .tc _ _ _).write (Elt F) f (k0_pay3 (k0_pay2 (chunk c 1 a)) w) Finset.univ i
      = part c a w i := by
  rw [← Rect.map_emb_univ] at hi
  obtain ⟨x, -, rfl⟩ := Finset.mem_map.mp hi
  refine (View.write_emb_of_mem (v := ((pM : Memref sig .tc .vmem S512x1024 .bf16).access pR1 : View sig .tc _ _ _)) (Val := Elt F) f _ (Finset.mem_univ x)).trans ?_
  have h0 : ((pR1.emb x) 0).val = 256 + (x 0).val := by show 256 + 1 * (x 0).val = _; omega
  unfold part
  rw [dif_neg (by rw [h0]; omega)]
  show k0_pay3 (k0_pay2 (chunk c 1 a)) w x = _
  congr 1
  refine (Shape.pair_eta (d := ![256, 1024]) x).symm.trans ?_
  congr 1
  · refine Fin.ext ?_
    show (x 0).val = ((pR1.emb x) 0).val - 256
    omega
  · exact Fin.ext (show (x 1).val = 0 + 1 * (x 1).val by omega)

variable (A W : Dev nD → Vec F S1024x4096 .f32)

/-- The reduced half of device `c`'s rows: its partial product plus its neighbour's. -/
def half (c : Dev nD) : Vec F S512x1024 .bf16 :=
  (addf (part c (A c) (W c)) (part (yp c) (A (yp c)) (W (yp c))) : FVec F S512x1024 .bf16)

/-- The device of the same column that works on the half row `r` lies in. -/
def rowDev (c : Dev nD) (r : Fin 1024) : Dev nD := if r.val / 512 = c.val / 2 then c else xp c

/-- The result on device `c`: each half from the device that reduced it. -/
def out (c : Dev nD) : Vec F S1024x1024 .bf16 := fun i =>
  half A W (rowDev c (i 0)) (Shape.pair (d := ![512, 1024]) ⟨(i 0).val % 512, Nat.mod_lt _ (by decide)⟩ (i 1))

/-- The result is the same on both devices of a column. -/
theorem out_xp (c : Dev nD) : out A W (xp c) = out A W c := by
  funext i
  unfold out
  have : rowDev (xp c) (i 0) = rowDev c (i 0) := by
    unfold rowDev
    have hx := xp_div c
    have hc := div_le c
    have hi : (i 0).val < 1024 := (i 0).isLt
    rw [hx, xp_xp]
    by_cases h : (i 0).val / 512 = c.val / 2
    · rw [if_neg (by omega), if_pos h]
    · rw [if_pos (by omega), if_neg h]
  rw [this]

/-- The sum of the two slabs, stored, is the result on the slab. -/
theorem write_o (c : Dev nD) (k : Fin 16) (f : Vec F S1024x1024 .bf16) (i : S1024x1024.Idx) (hi : i ∈ (ownR c k).set) :
    ((oM : Memref sig .tc .vmem S1024x1024 .bf16).access (ownR' c k) : View sig .tc _ _ _).write (Elt F) f
        (k0_pay4 ((pM : Memref sig .tc .vmem S512x1024 .bf16).view.readAt (Elt F) (slabR k).toLoadRect (part c (A c) (W c)))
          ((yM : Memref sig .tc .vmem S512x1024 .bf16).view.readAt (Elt F) (slabR k).toLoadRect (part (yp c) (A (yp c)) (W (yp c))))) Finset.univ i
      = out A W c i := by
  rw [← ownR'_eq, ← Rect.map_emb_univ] at hi
  obtain ⟨x, -, rfl⟩ := Finset.mem_map.mp hi
  refine (View.write_emb_of_mem (v := ((oM : Memref sig .tc .vmem S1024x1024 .bf16).access (ownR' c k) : View sig .tc _ _ _)) (Val := Elt F) f _ (Finset.mem_univ x)).trans ?_
  have hx0 : (x 0).val < 32 := (x 0).isLt
  have hk := k.isLt
  have h0 : (((ownR' c k).emb x) 0).val = 512 * (c.val / 2) + 32 * k.val + (x 0).val := by
    show (k0_off2 c (BitVec.ofNat 32 (32 * k.val))) 0 + 1 * (x 0).val = _
    rw [k0_off2_eq]; show (512 * (c.val / 2) + 32 * k.val) + 1 * (x 0).val = _; omega
  have h1 : (((ownR' c k).emb x) 1).val = (x 1).val := by
    show (k0_off2 c (BitVec.ofNat 32 (32 * k.val))) 1 + 1 * (x 1).val = _
    rw [k0_off2_eq]; show 0 + 1 * (x 1).val = _; omega
  unfold out rowDev
  rw [if_pos (by rw [h0]; omega)]
  unfold half
  show k0_pay4 _ _ x = _
  have hidx : (slabR k).toLoadRect.idx x = Shape.pair (d := ![512, 1024]) ⟨(((ownR' c k).emb x) 0).val % 512, Nat.mod_lt _ (by decide)⟩ (((ownR' c k).emb x) 1) := by
    refine (Shape.pair_eta (d := ![512, 1024]) _).symm.trans ?_
    congr 1
    · refine Fin.ext ?_
      show 32 * k.val + 1 * (x 0).val = _
      show _ = (((ownR' c k).emb x) 0).val % 512
      rw [h0]; omega
  rw [← hidx]
  rfl

/-- A copy of slab `k` lands as the source's slab. -/
theorem copy_y (k : Fin 16) (g f : Vec F S512x1024 .bf16) (i : S512x1024.Idx) (hi : i ∈ (slabR k).set) :
    (yS k).view.write (Elt F) f ((pS k).view.read (Elt F) g) Finset.univ i = g i := by
  rw [← Rect.map_emb_univ] at hi
  obtain ⟨x, -, rfl⟩ := Finset.mem_map.mp hi
  exact (View.write_emb_of_mem (v := (yS k).view) (Val := Elt F) f _ (Finset.mem_univ x)).trans rfl

theorem copy_x (c : Dev nD) (k : Fin 16) (g f : Vec F S1024x1024 .bf16) (i : S1024x1024.Idx) (hi : i ∈ (ownR c k).set) :
    (oS c k).view.write (Elt F) f ((oS c k).view.read (Elt F) g) Finset.univ i = g i := by
  rw [← Rect.map_emb_univ] at hi
  obtain ⟨x, -, rfl⟩ := Finset.mem_map.mp hi
  exact (View.write_emb_of_mem (v := (oS c k).view) (Val := Elt F) f _ (Finset.mem_univ x)).trans rfl

end Cert.Dcol

end
-- ==== Proof.Sched.lean ====
/-
The protocol: which semaphore cell is waited for once, by what amount, and what passes with it.

Every device has one barrier cell and, for each of the sixteen slabs, four cells: the copy along `y` left,
the copy along `y` arrived, the copy along `x` left, the copy along `x` arrived.
-/
module

public import proofs.«01_k».proof.Proof.Slabs
public import Idealize.ShloMosaic.Lib.Pipeline.Launch
public import Idealize.ShloMosaic.Lib.Pipeline.Kit
public import Idealize.ShloMosaic.Lib.Tactic

@[expose] public section

noncomputable section

namespace Cert.Dcol

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's cells: the barrier, and for slab `k` the four kinds of copy semaphore. -/
abbrev CK : Type := Option (Fin 4 × Fin 16)

/-- The copy semaphore of kind `j` and slab `k`. -/
abbrev osem : Fin 4 × Fin 16 → SemLoc sig
  | (⟨0, _⟩, k) => .dma (ysS k)
  | (⟨1, _⟩, k) => .dma (yrS k)
  | (⟨2, _⟩, k) => .dma (xsS k)
  | (⟨_ + 3, _⟩, k) => .dma (xrS k)

abbrev csem : CK → SemLoc sig
  | none => .reg barS
  | some q => osem q

/-- Which of these a semaphore is. -/
def dec : SemLoc sig → Option CK
  | .reg s => if s = barS then some none else none
  | .dma s => if 3 ≤ s.val then some (some (⟨(s.val - 3) / 16 % 4, Nat.mod_lt _ (by decide)⟩, ⟨(s.val - 3) % 16, Nat.mod_lt _ (by decide)⟩)) else none

theorem dec_csem : ∀ x : CK, dec (csem x) = some x := by decide +kernel

abbrev cell (d : Dev nD) (x : CK) : GSem nD τ sig := ((d : Thread nD τ), csem x)

theorem cell_inj {d d' : Dev nD} {x x' : CK} : cell d x = cell d' x' ↔ d = d' ∧ x = x' := by
  constructor
  · intro h
    have h1 : d = d' := congrArg (fun g : GSem nD τ sig => g.1.1) h
    have h2 : dec (csem x) = dec (csem x') := congrArg (fun g : GSem nD τ sig => dec g.2) h
    rw [dec_csem, dec_csem] at h2
    exact ⟨h1, Option.some.inj h2⟩
  · rintro ⟨rfl, rfl⟩; rfl

/-- What one slab's copy adds to its semaphore. -/
abbrev N : ℕ := (pS 0).view.dmaCredit
theorem N_pos : 0 < N := View.dmaCredit_pos _ (by decide)

/-! ## What passes -/

/-- Slab `k` of device `d`'s partial product holding `f`; -/
def pPts (d : Dev nD) (k : Fin 16) (f : Vec F S512x1024 .bf16) : sProp 𝕄 :=
  (pS k).view.loc (d : Thread nD τ) ↦[(pS k).view.set]{fullShare} f
/-- slab `k` of the buffer its neighbour's partial product arrives in; -/
def yPts (d : Dev nD) (k : Fin 16) (f : Vec F S512x1024 .bf16) : sProp 𝕄 :=
  (yS k).view.loc (d : Thread nD τ) ↦[(yS k).view.set]{fullShare} f
/-- slab `k` of device `h`'s half in device `d`'s result. -/
def oPts (h d : Dev nD) (k : Fin 16) (f : Vec F S1024x1024 .bf16) : sProp 𝕄 :=
  (oS h k).view.loc (d : Thread nD τ) ↦[(oS h k).view.set]{fullShare} f

instance (d : Dev nD) (k : Fin 16) (f) : BI.Storable (upEmb : UEmb _ 𝕄) (pPts (F := F) d k f) := by unfold pPts; infer_instance
instance (d : Dev nD) (k : Fin 16) (f) : BI.Storable (upEmb : UEmb _ 𝕄) (yPts (F := F) d k f) := by unfold yPts; infer_instance
instance (h d : Dev nD) (k : Fin 16) (f) : BI.Storable (upEmb : UEmb _ 𝕄) (oPts (F := F) h d k f) := by unfold oPts; infer_instance

/-- Room for the copies along `y` into device `d`, -/
def yRoom (d : Dev nD) : sProp 𝕄 := bigSep Finset.univ fun k : Fin 16 => iprop(∃ f, yPts (F := F) d k f)
/-- and for the copies along `x` from device `h` into device `d`. -/
def xRoom (h d : Dev nD) : sProp 𝕄 := bigSep Finset.univ fun k : Fin 16 => iprop(∃ f, oPts (F := F) h d k f)

variable (A W : Dev nD → Vec F S1024x4096 .f32)

/-- Device `d`'s partial product. -/
abbrev partOf (d : Dev nD) : Vec F S512x1024 .bf16 := part d (A d) (W d)

/-- What device `c` gets by waiting for a cell: at the barrier, the neighbours' room; at a copy's cells, the
    slab read back and the slab arrived. -/
def pay (c : Dev nD) : CK → Bool → sProp 𝕄
  | none, false => yRoom (yp c)
  | none, true => xRoom c (xp c)
  | some (⟨0, _⟩, k), _ => pPts c k (partOf A W c)
  | some (⟨1, _⟩, k), _ => yPts c k (partOf A W (yp c))
  | some (⟨2, _⟩, k), _ => oPts c c k (out A W c)
  | some (⟨_ + 3, _⟩, k), _ => oPts (xp c) c k (out A W c)

instance pay_storable (c : Dev nD) (x : CK) (d : Bool) : BI.Storable (upEmb : UEmb _ 𝕄) (pay A W c x d) := by
  unfold pay yRoom xRoom
  split <;> infer_instance

/-- The duties of a cell: two payers at the barrier, one copy elsewhere. -/
def dutiesOf : CK → Finset Bool
  | none => Finset.univ
  | some _ => {false}

def amountOf : CK → ℕ
  | none => 1
  | some _ => N

/-- One round of every cell. -/
def sched : Rounds.Schedule (GSem nD τ sig) Bool 𝕄 where
  duties g r := if r = 0 ∧ g.1.2 = .tc then (dec g.2).elim ∅ dutiesOf else ∅
  unitless _ := False
  amount g _ _ := (dec g.2).elim 1 amountOf
  payload g _ d := (dec g.2).elim iprop(emp) fun x => pay A W g.1.1 x d
  amount_pos g _ _ _ := by
    cases dec g.2 with
    | none => exact Nat.one_pos
    | some x => cases x with
      | none => exact Nat.one_pos
      | some _ => exact N_pos

instance sched_storable (g : GSem nD τ sig) (r : ℕ) (d : Bool) : BI.Storable (upEmb : UEmb _ 𝕄) ((sched A W).payload g r d) := by
  show BI.Storable upEmb ((dec g.2).elim iprop(emp) fun x => pay A W g.1.1 x d)
  cases dec g.2 <;> (dsimp only [Option.elim]; infer_instance)

theorem duties_cell (c : Dev nD) (x : CK) : (sched A W).duties (cell c x) 0 = dutiesOf x := by
  have h : (0 : ℕ) = 0 ∧ (cell c x).1.2 = .tc := ⟨rfl, rfl⟩
  show (if (0 : ℕ) = 0 ∧ (cell c x).1.2 = .tc then (dec (csem x)).elim ∅ dutiesOf else ∅) = _
  rw [if_pos h, dec_csem]; rfl
theorem duties_later (g : GSem nD τ sig) : ∀ r, 1 ≤ r → (sched A W).duties g r = ∅ :=
  fun r hr => if_neg fun h => by omega
theorem amount_cell (c : Dev nD) (x : CK) (d : Bool) : (sched A W).amount (cell c x) 0 d = amountOf x := by
  show (dec (csem x)).elim _ _ = _
  rw [dec_csem]; rfl
theorem payload_cell (c : Dev nD) (x : CK) (d : Bool) : (sched A W).payload (cell c x) 0 d = pay A W c x d := by
  show (dec (csem x)).elim _ _ = _
  rw [dec_csem]; rfl

theorem expect_bar (c : Dev nD) : (sched A W).expect (cell c none) 0 = 2 := by
  unfold Schedule.expect Schedule.amountOf
  rw [duties_cell, Finset.sum_congr rfl fun d _ => amount_cell A W c none d]; rfl
theorem expect_copy (c : Dev nD) (q : Fin 4 × Fin 16) : (sched A W).expect (cell c (some q)) 0 = N := by
  unfold Schedule.expect Schedule.amountOf
  rw [duties_cell, Finset.sum_congr rfl fun d _ => amount_cell A W c (some q) d]
  exact Finset.sum_singleton _ _

/-- All that a wait at the barrier brings: both neighbours' room. -/
theorem rest_bar (c : Dev nD) :
    bigSep ((sched A W).duties (cell c none) 0 \ ∅) (fun d => (sched A W).payload (cell c none) 0 d) = iprop(yRoom (yp c) ∗ xRoom c (xp c)) := by
  rw [Finset.sdiff_empty, duties_cell]
  show bigSep Finset.univ _ = _
  rw [bigSep_univ_eq_bigSepL [false, true] (by decide) (by decide), bigSepL_cons_cons, bigSepL_singleton, payload_cell, payload_cell]
  rfl
/-- All that a wait at a copy's cell brings: its slab. -/
theorem rest_copy (c : Dev nD) (q : Fin 4 × Fin 16) :
    bigSep ((sched A W).duties (cell c (some q)) 0 \ ∅) (fun d => (sched A W).payload (cell c (some q)) 0 d) = pay A W c (some q) false := by
  rw [Finset.sdiff_empty, duties_cell]
  show bigSep {false} _ = _
  rw [bigSep_singleton, payload_cell]

/-! ## What is owed, and the levels -/

/-- What is owed to a list of cells. -/
def owe : List (GSem nD τ sig × ℕ) → CellTallies nD τ sig Unit
  | [] => 0
  | p :: l => owe l + tallyAt p.1 () p.2

theorem owe_apply (l : List (GSem nD τ sig × ℕ)) (g : GSem nD τ sig) (u : Unit) :
    owe l g u = (l.map fun p => if p.1 = g then p.2 else 0).sum := by
  induction l with
  | nil => rfl
  | cons p l ih =>
    rw [List.map_cons, List.sum_cons, ← ih, add_comm]
    show owe l g u + tallyAt p.1 () p.2 g u = _
    rw [tallyAt_apply]
    congr 1
    by_cases h : g = p.1
    · rw [if_pos ⟨h, rfl⟩, if_pos h.symm]
    · rw [if_neg fun h' => h h'.1, if_neg fun h' => h h'.symm]

theorem owe_mem {l : List (GSem nD τ sig × ℕ)} {g : GSem nD τ sig} {u : Unit} (h : 0 < owe l g u) : ∃ p ∈ l, p.1 = g := by
  by_contra hn
  push Not at hn
  rw [owe_apply, List.map_congr_left (g := fun _ => 0) fun p hp => if_neg (hn p hp)] at h
  simp at h

/-- Copies of the slabs `ks` of kind `j` arriving at device `d`. -/
abbrev dues (d : Dev nD) (j : Fin 4) (ks : List (Fin 16)) : List (GSem nD τ sig × ℕ) := ks.map fun k => (cell d (some (j, k)), N)

/-- What device `c` owes after its two signals, in the order it pays: the copies along `y`, then along `x`. -/
abbrev dueX (c : Dev nD) : List (GSem nD τ sig × ℕ) := dues (xp c) 3 ksA
abbrev due1 (c : Dev nD) : List (GSem nD τ sig × ℕ) := dues (yp c) 1 ks1 ++ dueX c
abbrev due0 (c : Dev nD) : List (GSem nD τ sig × ℕ) := dues (yp c) 1 ks0 ++ due1 c
/-- What device `c` owes at the start. -/
abbrev dueS (c : Dev nD) : List (GSem nD τ sig × ℕ) := (cell (yp c) none, 1) :: (cell (xp c) none, 1) :: due0 c

/-- The levels: the barrier below the copies along `y`, these below the copies along `x`. -/
def slv (s : SemLoc sig) : ℕ := (dec s).elim 0 fun x => x.elim 1 fun q => ![0, 2, 0, 3] q.1
def lv (g : GSem nD τ sig) (_ : Unit) : ℕ := slv g.2
def L (g : GSem nD τ sig) : Finset Unit := if g.1.2 = .tc then {()} else ∅

theorem slv_cell (x : CK) : slv (csem x) = x.elim 1 fun q => ![0, 2, 0, 3] q.1 := by unfold slv; rw [dec_csem]; rfl
theorem L_tc (c : Dev nD) (sm : SemLoc sig) : L ((c : Thread nD τ), sm) = {()} := if_pos rfl
theorem L_of_ne (g : GSem nD τ sig) (h : g.1.2 ≠ .tc) : L g = ∅ := if_neg h

/-- A device may wait for a semaphore below everything it still owes. -/
theorem mayWait_of (c : Dev nD) (sm : SemLoc sig) (l : List (GSem nD τ sig × ℕ))
    (h : ∀ p ∈ l, p.1.1.2 = .tc ∧ slv sm < slv p.1.2) : (levAts L lv : sProp 𝕄) ⊢ MayWait (c : Thread nD τ) sm () (owe l) :=
  MayOwe.of_cut (L := L) (lev := lv) (slv sm) (fun p hp => by rw [Finset.mem_singleton.mp hp, L_tc]; exact Finset.mem_singleton_self _)
    (fun g u hg => by
      obtain ⟨p, hp, rfl⟩ := owe_mem hg
      unfold L; rw [if_pos (h p hp).1]; exact Finset.mem_singleton_self _)
    (fun p hp => by rw [Finset.mem_singleton.mp hp]; exact le_refl _)
    (fun g u hg => by
      obtain ⟨p, hp, rfl⟩ := owe_mem hg
      exact (h p hp).2)

theorem dues_lv (d : Dev nD) (j : Fin 4) (ks : List (Fin 16)) (n : ℕ) (h : n < (![0, 2, 0, 3] : Fin 4 → ℕ) j) :
    ∀ p ∈ dues d j ks, p.1.1.2 = .tc ∧ n < slv p.1.2 := by
  intro p hp
  obtain ⟨k, -, rfl⟩ := List.mem_map.mp hp
  refine ⟨rfl, ?_⟩
  show n < slv (csem (some (j, k)))
  rw [slv_cell]; exact h

theorem due0_lv (c : Dev nD) (n : ℕ) (h : n ≤ 1) : ∀ p ∈ due0 c, p.1.1.2 = .tc ∧ n < slv p.1.2 := by
  intro p hp
  rcases List.mem_append.mp hp with hp | hp
  · exact dues_lv _ _ _ _ (by show n < 2; omega) p hp
  rcases List.mem_append.mp hp with hp | hp
  · exact dues_lv _ _ _ _ (by show n < 2; omega) p hp
  · exact dues_lv _ _ _ _ (by show n < 3; omega) p hp

theorem dueS_lv (c : Dev nD) : ∀ p ∈ dueS c, p.1.1.2 = .tc ∧ 0 < slv p.1.2 := by
  intro p hp
  rcases List.mem_cons.mp hp with rfl | hp
  · exact ⟨rfl, by show 0 < slv (csem none); rw [slv_cell]; exact Nat.one_pos⟩
  rcases List.mem_cons.mp hp with rfl | hp
  · exact ⟨rfl, by show 0 < slv (csem none); rw [slv_cell]; exact Nat.one_pos⟩
  · exact due0_lv c 0 (by omega) p hp

/-- The sum of what is owed one cell: copies of distinct slabs. -/
theorem owe_dues (d d' : Dev nD) (j : Fin 4) (ks : List (Fin 16)) (hks : ks.Nodup) (x : CK) :
    ((dues d j ks).map fun p => if p.1 = cell d' x then p.2 else 0).sum
      = if d = d' ∧ (∃ k ∈ ks, x = some (j, k)) then N else 0 := by
  induction ks with
  | nil => simp
  | cons k ks ih =>
    have hk := (List.nodup_cons.mp hks)
    rw [dues, List.map_cons, List.map_cons, List.sum_cons]
    rw [show (List.map (fun p => if p.1 = cell d' x then p.2 else 0) (List.map (fun k => (cell d (some (j, k)), N)) ks)).sum = _ from ih hk.2]
    by_cases hd : d = d'
    · by_cases hx : x = some (j, k)
      · rw [if_pos (cell_inj.mpr ⟨hd, hx.symm⟩), if_neg, if_pos ⟨hd, k, List.mem_cons_self, hx⟩, add_zero]
        rintro ⟨-, k', hk', hx'⟩
        rw [hx] at hx'
        have : k = k' := congrArg Prod.snd (Option.some.inj hx')
        exact hk.1 (this ▸ hk')
      · rw [if_neg fun h => hx (cell_inj.mp h).2.symm, zero_add]
        congr 1
        refine propext ⟨fun ⟨h, k', hk', e⟩ => ⟨h, k', List.mem_cons_of_mem _ hk', e⟩, fun ⟨h, k', hk', e⟩ => ⟨h, k', ?_, e⟩⟩
        rcases List.mem_cons.mp hk' with rfl | h'
        · exact absurd e hx
        · exact h'
    · rw [if_neg fun h => hd (cell_inj.mp h).1, if_neg fun h => hd h.1, if_neg fun h => hd h.1]

end Cert.Dcol

end
-- ==== Proof.Steps.lean ====
/-
The repeated pieces of the body, each proved once at a symbolic slab.
-/
module

public import proofs.«01_k».proof.Proof.Sched
public import Idealize.ShloMosaic.Lib.Pipeline.BigSepL

@[expose] public section

noncomputable section

namespace Cert.Dcol

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A repeated step: what every round needs of its own, and what the rounds hand on. -/
theorem wp_rep (c : Dev nD) (f : Fin 16 → Prog (TpuEff nD τ sig (Elt F) Λ₀ .tc) PUnit)
    (Pre Post : Fin 16 → sProp 𝕄) (Inv : List (Fin 16) → sProp 𝕄)
    (step : ∀ (k : Fin 16) (rest : List (Fin 16)) (Q : PUnit → sProp 𝕄),
      iprop(Pre k ∗ Inv (k :: rest) ∗ ((Post k ∗ Inv rest) -∗ Q ⟨⟩)) ⊢ wp frame (wpE (defs₀ (F := F)) 𝒱₀ (c : Thread nD τ) none) Set.univ (f k) Q) :
    ∀ (ks : List (Fin 16)) (Q : PUnit → sProp 𝕄),
      iprop(bigSepL ks Pre ∗ Inv ks ∗ ((bigSepL ks Post ∗ Inv []) -∗ Q ⟨⟩))
        ⊢ wp frame (wpE (defs₀ (F := F)) 𝒱₀ (c : Thread nD τ) none) Set.univ (rep f ks) Q
  | [], Q => by
    unfold rep
    simp only [Prog.pure_eq_ret, wp_ret]
    iintro ⟨Hpre, Hinv, Hk⟩
    imodintro
    iapply Hk
    isplitl [Hpre]
    · iexact Hpre
    · iexact Hinv
  | k :: ks, Q => by
    unfold rep
    rw [wp_bind, bigSepL_cons', bigSepL_cons']
    iintro ⟨⟨Hp, Hps⟩, Hinv, Hk⟩
    iapply (step k ks _)
    isplitl [Hp]; · iexact Hp
    isplitl [Hinv]; · iexact Hinv
    iintro ⟨Hq, Hinv⟩
    iapply (wp_rep c f Pre Post Inv step ks Q)
    isplitl [Hps]; · iexact Hps
    isplitl [Hinv]; · iexact Hinv
    iintro ⟨Hqs, Hinv⟩
    iapply Hk
    isplitl [Hq Hqs]
    · isplitl [Hq] <;> iassumption
    · iexact Hinv

section Steps

variable (A W : Dev nD → Vec F S1024x4096 .f32) (K : Dev nD × CK → ℕ)

/-- What every device may use at any time: every cell's invariant, that every cell stands at its round, the levels. -/
def known : sProp 𝕄 :=
  iprop((bigSep Finset.univ fun q : Dev nD × CK => cellInv ER (sched A W) (K q) (cell q.1 q.2))
    ∗ (bigSep Finset.univ fun q : Dev nD × CK => reached ER (cell q.1 q.2) 0) ∗ levAts L lv)

instance known_persistent : BI.Persistent (known A W K) := by unfold known; infer_instance

theorem all_inv (q : Dev nD × CK) :
    (bigSep Finset.univ fun q : Dev nD × CK => cellInv ER (sched A W) (K q) (cell q.1 q.2)) ⊢ cellInv ER (sched A W) (K q) (cell q.1 q.2) :=
  bigSep_elim (Finset.mem_univ q)
theorem all_reached (q : Dev nD × CK) :
    (bigSep Finset.univ fun q : Dev nD × CK => (reached ER (cell q.1 q.2) 0 : sProp 𝕄)) ⊢ reached ER (cell q.1 q.2) 0 :=
  bigSep_elim (Finset.mem_univ q)
theorem known_inv (d : Dev nD) (x : CK) : known A W K ⊢ cellInv ER (sched A W) (K (d, x)) (cell d x) := by
  unfold known
  iintro ⟨H, -, -⟩
  iapply (all_inv A W K (d, x)) $$ H
theorem known_reached (d : Dev nD) (x : CK) : known A W K ⊢ reached ER (cell d x) 0 := by
  unfold known
  iintro ⟨-, H, -⟩
  iapply (all_reached (d, x)) $$ H
theorem known_lev : known A W K ⊢ levAts L lv := by
  unfold known
  iintro ⟨-, -, H⟩
  iexact H

variable (c : Dev nD)

/-- Device `c` owes `l`, whatever it has waited for. -/
def owing (l : List (GSem nD τ sig × ℕ)) : sProp 𝕄 := iprop(∃ Ws, owes (c : Thread nD τ) (owe l) Ws)

/-- A wait at a copy's cell, below everything still owed: the cell is closed and its slab comes back. -/
theorem wp_waitCopy (q : Fin 4 × Fin 16) (sm : DmaSem sig) (hS : osem q = .dma sm) (src dst : Memref sig .tc .vmem S32x1024 .bf16) (hN : dst.view.dmaCredit = N)
    (l : List (GSem nD τ sig × ℕ)) (hl : ∀ p ∈ l, p.1.1.2 = .tc ∧ slv (csem (some q)) < slv p.1.2)
    {hsrc : src.view.WordExact} {hdst : dst.view.WordExact}
    {α : Type} {k : PUnit → Prog (TpuEff nD τ sig (Elt F) Λ₀ .tc) α} {Q : α → sProp 𝕄} :
    iprop(known A W K ∗ cred (tallyAt (cell c (some q)) () N) ∗ owing c l ∗ atPos ER (cell c (some q)) 0 ∅ 0)
      ⊢ iprop(((owing c l ∗ semVal (cell c (some q)) 0 ∗ pay A W c (some q) false)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have g : cell c (some q) = ((c : Thread nD τ), .dma sm) := Prod.ext rfl hS
  have he := expect_copy A W c q
  have hr := Entails.of_eq (rest_copy A W c q)
  have hi := known_inv A W K c (some q)
  have hm := mayWait_of (F := F) c (csem (some q)) l hl
  have hd := duties_later A W (cell c (some q))
  rw [show csem (some q) = .dma sm from hS] at hm
  rw [g] at he hr hi hd
  rw [g]
  unfold owing
  iintro ⟨#Hk, Hc, ⟨%Ws, HO⟩, Hat⟩ Hcont
  ihave #HI := hi $$ Hk
  ihave #Hlev := (known_lev A W K) $$ Hk
  rw [← hN] at he
  rw [← hN]
  iapply (Rounds.wp_wait_rest_token 𝒱₀ ER (sched A W) (c : Thread nD τ) none (κ := K (c, some q))
      (wpE_waitDma2_eq 𝒱₀ (c : Thread nD τ) none Set.univ) (Set.mem_univ _) () (O := owe l) (W := Ws) (R := 0) (m := 0) (T := ∅)
      (by rw [Nat.zero_add]; exact he.symm)) $$ [Hc HO Hat]
  · isplitr; · iexact HI
    isplitl [Hc]; · iexact Hc
    isplitl [HO]; · iexact HO
    isplitr; · iapply hm; iexact Hlev
    iexact Hat
  iintro ⟨HO, Hat, -, Hpay⟩
  ihave Hp := hr $$ Hpay
  imod (Rounds.cell_close ER (sched A W) (Set.mem_univ (K (c, some q))) (fun h => h) (R := 0 + 1) hd) $$ [Hat] with Hz
  · isplitr; · iexact HI
    iexact Hat
  iapply Hcont
  isplitl [HO]; · iexists _; iexact HO
  isplitl [Hz] <;> iassumption

theorem amountY (k : Fin 16) : (yS k).view.amount (.dma (yrS k)) = N := rfl
theorem amountX (h : Dev nD) (k : Fin 16) : (oS h k).view.amount (.dma (xrS k)) = N := rfl
theorem mem_duty (d : Dev nD) (q : Fin 4 × Fin 16) : false ∈ (sched A W).duties (cell d (some q)) 0 := by
  rw [duties_cell]; exact Finset.mem_singleton_self _
theorem payOut (d : Dev nD) (q : Fin 4 × Fin 16) : pay A W d (some q) false ⊢ (sched A W).payload (cell d (some q)) 0 false :=
  Entails.of_eq (payload_cell A W d (some q) false).symm

/-- A copy of one slab to the device `n` that owes nothing for it yet: the source and the room pass to the two cells. -/
theorem wp_copy (n e : Dev nD) (hn : n = e) (q q' : Fin 4 × Fin 16) (sS sR : DmaSem sig) (hS : osem q = .dma sS) (hR : osem q' = .dma sR)
    (src dst : Memref sig .tc .vmem S32x1024 .bf16) (l : List (GSem nD τ sig × ℕ)) (hN : dst.view.amount (.dma sR) = N)
    (fs : Buf (Elt F) (src.view.loc (c : Thread nD τ))) (fd : Buf (Elt F) (dst.view.loc (e : Thread nD τ)))
    (h5 : (src.view.loc (c : Thread nD τ) ↦[src.view.set]{fullShare} fs : sProp 𝕄) ⊢ pay A W c (some q) false)
    (h6 : (dst.view.loc (e : Thread nD τ) ↦[dst.view.set]{fullShare} dst.view.write (Elt F) fd (src.view.read (Elt F) fs) Finset.univ : sProp 𝕄)
      ⊢ pay A W e (some q') false)
    {hsc : (dst : Memref sig (Dev.tc n : Thread nD τ).2.kind .vmem S32x1024 .bf16).view.ref.isScScratch = false}
    {hsrc : src.view.WordExact} {hdst : (dst : Memref sig (Dev.tc n : Thread nD τ).2.kind .vmem S32x1024 .bf16).view.WordExact}
    {hsem : DmaTarget.Typed .vmem (.dma sR) (.remote (Dev.tc n : Thread nD τ) (dst : Memref sig (Dev.tc n : Thread nD τ).2.kind .vmem S32x1024 .bf16) (.dma sS) hsc)}
    {α : Type} {Q : α → sProp 𝕄} {kk : PUnit → Prog (TpuEff nD τ sig (Elt F) Λ₀ .tc) α} :
    iprop(known A W K ∗ (src.view.loc (c : Thread nD τ) ↦[src.view.set]{fullShare} fs) ∗ (dst.view.loc (e : Thread nD τ) ↦[dst.view.set]{fullShare} fd)
        ∗ dutyTok ER (cell c (some q)) 0 false ∗ dutyTok ER (cell e (some q')) 0 false
        ∗ owing c ((cell e (some q'), N) :: l))
      ⊢ iprop(((cred (tallyAt (cell c (some q)) () N) ∗ owing c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn
  have g1 : cell c (some q) = ((c : Thread nD τ), .dma sS) := Prod.ext rfl hS
  have g2 : cell n (some q') = ((n : Thread nD τ), .dma sR) := Prod.ext rfl hR
  have h1 := mem_duty A W c q
  have h2 := mem_duty A W n q'
  have h3 := amount_cell A W c (some q) false
  have h4 := amount_cell A W n (some q') false
  have h5' := h5.trans (payOut A W c q)
  have h6' := h6.trans (payOut A W n q')
  have i1 := known_inv A W K c (some q)
  have i2 := known_inv A W K n (some q')
  have r1 := known_reached A W K c (some q)
  have r2 := known_reached A W K n (some q')
  unfold owing
  simp only [owe]
  rw [g1] at h1 h3 h5' i1 r1
  rw [g2] at h2 h4 h6' i2 r2
  rw [g1, g2]
  iintro ⟨#Hk, Hp, Hy, Ht0, Ht1, ⟨%Ws, HO⟩⟩ Hcont
  iapply (Rounds.wp_send_pointsTo 𝒱₀ ER (sched A W) (c : Thread nD τ) none (κ₁ := K (c, some q)) (κ₂ := K (n, some q'))
    h1 h2 () () N hN h3 h4 (owe l) rfl (W := Ws) h5' h6') $$ [Hp Hy HO Ht0 Ht1]
  · isplitr; · iapply i1; iexact Hk
    isplitr; · iapply i2; iexact Hk
    isplitl [Hp]; · iexact Hp
    isplitl [Hy]; · iexact Hy
    isplitl [HO]; · iexact HO
    isplitl [Ht0]; · iexact Ht0
    isplitr; · iapply r1; iexact Hk
    isplitl [Ht1]; · iexact Ht1
    iapply r2; iexact Hk
  iintro ⟨Hc, HO⟩
  iapply Hcont
  isplitl [Hc]; · iexact Hc
  iexists _; iexact HO

theorem pay_0 (k : Fin 16) : pay A W c (some (0, k)) false = pPts c k (partOf A W c) := rfl
theorem pay_1 (k : Fin 16) : pay A W c (some (1, k)) false = yPts c k (partOf A W (yp c)) := rfl
theorem pay_2 (k : Fin 16) : pay A W c (some (2, k)) false = oPts c c k (out A W c) := rfl
theorem pay_3 (k : Fin 16) : pay A W c (some (3, k)) false = oPts (xp c) c k (out A W c) := rfl

/-- The load and the store of a slab of the result stay in the slab the copies name. -/
theorem loadO (k : Fin 16) : (oM : Memref sig .tc .vmem S1024x1024 .bf16).view.setOn (ownR' c k).toLoadRect.set ⊆ (oS c k).view.set := by
  rw [View.set_slice]
  show _ ⊆ oM.view.setOn (ownR c k).set
  rw [← ownR'_eq]
theorem storeO (k : Fin 16) :
    ((oM : Memref sig .tc .vmem S1024x1024 .bf16).access (ownR' c k) : View sig .tc _ _ _).setOn Finset.univ ⊆ (oS c k).view.set := by
  rw [View.setOn_univ, View.set_slice, View.set_slice, ownR'_eq]

/-! ### The copies along `y` -/

/-- What slab `k`'s copy along `y` takes, -/
def preY (k : Fin 16) : sProp 𝕄 :=
  iprop(pPts c k (partOf A W c) ∗ (∃ f, yPts (F := F) (yp c) k f)
    ∗ dutyTok ER (cell c (some (0, k))) 0 false ∗ dutyTok ER (cell (yp c) (some (1, k))) 0 false)
/-- and what it leaves. -/
def postY (k : Fin 16) : sProp 𝕄 := cred (tallyAt (cell c (some (0, k))) () N)

/-- The copy has written the neighbour's slab. -/
theorem landY (k : Fin 16) (f : Vec F S512x1024 .bf16) :
    ((yS k).view.loc (yp c : Thread nD τ) ↦[(yS k).view.set]{fullShare} (yS k).view.write (Elt F) f ((pS k).view.read (Elt F) (partOf A W c)) Finset.univ : sProp 𝕄)
      ⊢ pay A W (yp c) (some (1, k)) false := by
  show _ ⊢ yPts (yp c) k (partOf A W (yp (yp c)))
  rw [yp_yp]
  unfold yPts
  exact Entails.of_eq (pointsTo_congr fun i hi => copy_y k _ _ i (by rwa [View.set_slice_whole] at hi))

/-- The copies along `y` of the slabs `ks`. -/
theorem rep_sendY (ks : List (Fin 16)) (l : List (GSem nD τ sig × ℕ)) (Q : PUnit → sProp 𝕄) :
    iprop(bigSepL ks (preY A W c) ∗ (known A W K ∗ owing c (dues (yp c) 1 ks ++ l)) ∗ ((bigSepL ks (postY c) ∗ (known A W K ∗ owing c l)) -∗ Q ⟨⟩))
      ⊢ wp frame (wpE (defs₀ (F := F)) 𝒱₀ (c : Thread nD τ) none) Set.univ (rep (sendY c) ks) Q :=
  wp_rep c (sendY c) (preY A W c) (postY c) (fun ks => iprop(known A W K ∗ owing c (dues (yp c) 1 ks ++ l))) (fun k rest Q => by
    unfold sendY preY postY pPts yPts
    simp only [Prog.lift]
    iintro ⟨⟨Hp, ⟨%f, Hy⟩, Ht0, Ht1⟩, ⟨#Hk, HO⟩, Hcont⟩
    iapply (wp_copy A W K c (devY c) (yp c) (devY_eq c) (0, k) (1, k) (ysS k) (yrS k) rfl rfl (pS k) (yS k) (dues (yp c) 1 rest ++ l)
      (amountY k) (partOf A W c) f (Entails.of_eq rfl) (landY A W c k f)) $$ [Hp Hy Ht0 Ht1 HO]
    · isplitr; · iexact Hk
      isplitl [Hp]; · iexact Hp
      isplitl [Hy]; · iexact Hy
      isplitl [Ht0]; · iexact Ht0
      isplitl [Ht1]; · iexact Ht1
      iexact HO
    iintro ⟨Hq, HO⟩
    rw [wp_ret]; imodintro
    iapply Hcont
    isplitl [Hq]; · iexact Hq
    isplitr; · iexact Hk
    iexact HO) ks Q

/-! ### The reductions -/

/-- What slab `k`'s reduction takes: both copies along `y` under way, room for the sum here and on the neighbour along `x`; -/
def preR (k : Fin 16) : sProp 𝕄 :=
  iprop(cred (tallyAt (cell c (some (0, k))) () N) ∗ cred (tallyAt (cell c (some (1, k))) () N)
    ∗ atPos ER (cell c (some (0, k))) 0 ∅ 0 ∗ atPos ER (cell c (some (1, k))) 0 ∅ 0
    ∗ (∃ f, oPts (F := F) c c k f) ∗ (∃ f, oPts (F := F) c (xp c) k f)
    ∗ dutyTok ER (cell c (some (2, k))) 0 false ∗ dutyTok ER (cell (xp c) (some (3, k))) 0 false)
/-- what it leaves: the two cells closed, the two slabs it added, the copy along `x` under way. -/
def postR (k : Fin 16) : sProp 𝕄 :=
  iprop(semVal (cell c (some (0, k))) 0 ∗ semVal (cell c (some (1, k))) 0
    ∗ pPts c k (partOf A W c) ∗ yPts c k (partOf A W (yp c)) ∗ cred (tallyAt (cell c (some (2, k))) () N))

/-- The copy has written the neighbour's slab. -/
theorem landX (k : Fin 16) (f : Vec F S1024x1024 .bf16) :
    ((oS c k).view.loc (xp c : Thread nD τ) ↦[(oS c k).view.set]{fullShare} (oS c k).view.write (Elt F) f ((oS c k).view.read (Elt F) (out A W c)) Finset.univ : sProp 𝕄)
      ⊢ pay A W (xp c) (some (3, k)) false := by
  show _ ⊢ oPts (xp (xp c)) (xp c) k (out A W (xp c))
  rw [xp_xp, out_xp]
  unfold oPts
  exact Entails.of_eq (pointsTo_congr fun i hi => copy_x c k _ _ i (by rwa [View.set_slice_whole] at hi))

/-- The sum stored, the slab holds the result. -/
theorem storedX (k : Fin 16) (f : Vec F S1024x1024 .bf16) :
    ((oS c k).view.loc (c : Thread nD τ) ↦[(oS c k).view.set]{fullShare}
      ((oM : Memref sig .tc .vmem S1024x1024 .bf16).access (ownR' c k) : View sig .tc _ _ _).write (Elt F) f
        (k0_pay4 ((pM : Memref sig .tc .vmem S512x1024 .bf16).view.readAt (Elt F) (slabR k).toLoadRect (partOf A W c))
          ((yM : Memref sig .tc .vmem S512x1024 .bf16).view.readAt (Elt F) (slabR k).toLoadRect (partOf A W (yp c)))) Finset.univ : sProp 𝕄)
      ⊢ (oS c k).view.loc (c : Thread nD τ) ↦[(oS c k).view.set]{fullShare} out A W c :=
  Entails.of_eq (pointsTo_congr fun i hi => write_o A W c k f i (by rwa [View.set_slice_whole] at hi))

theorem rep_reduce (ks : List (Fin 16)) (Q : PUnit → sProp 𝕄) :
    iprop(bigSepL ks (preR c) ∗ (known A W K ∗ owing c (dues (xp c) 3 ks)) ∗ ((bigSepL ks (postR A W c) ∗ (known A W K ∗ owing c (dues (xp c) 3 []))) -∗ Q ⟨⟩))
      ⊢ wp frame (wpE (defs₀ (F := F)) 𝒱₀ (c : Thread nD τ) none) Set.univ (rep (reduce c) ks) Q :=
  wp_rep c (reduce c) (preR c) (postR A W c) (fun ks => iprop(known A W K ∗ owing c (dues (xp c) 3 ks))) (fun k rest Q => by
    unfold reduce preR postR
    simp only [Prog.lift, Prog.bind_op, Prog.bind_ret]
    iintro ⟨⟨Hc0, Hc1, Ha0, Ha1, ⟨%f, Ho⟩, ⟨%g, Hx⟩, Ht2, Ht3⟩, ⟨#Hk, HO⟩, Hcont⟩
    -- the copy away has left, and the neighbour's has arrived
    iapply (wp_waitCopy A W K c (0, k) (ysS k) rfl (yS k) (pS k) rfl (dues (xp c) 3 (k :: rest))
      (dues_lv _ _ _ _ (by rw [slv_cell]; show 0 < 3; decide))) $$ [Hc0 HO Ha0]
    · isplitr; · iexact Hk
      isplitl [Hc0]; · iexact Hc0
      isplitl [HO] <;> iassumption
    iintro ⟨HO, Hz0, Hp⟩
    iapply (wp_waitCopy A W K c (1, k) (yrS k) rfl (pS k) (yS k) rfl (dues (xp c) 3 (k :: rest))
      (dues_lv _ _ _ _ (by rw [slv_cell]; show 2 < 3; decide))) $$ [Hc1 HO Ha1]
    · isplitr; · iexact Hk
      isplitl [Hc1]; · iexact Hc1
      isplitl [HO] <;> iassumption
    iintro ⟨HO, Hz1, Hy⟩
    -- the two slabs added and stored
    ihave Hp := (Entails.of_eq (pay_0 A W c k)) $$ Hp
    ihave Hy := (Entails.of_eq (pay_1 A W c k)) $$ Hy
    unfold oPts pPts yPts
    iapply (wp_load 𝒱₀ (c : Thread nD τ) none Set.univ (m := pM) (r := (slabR k).toLoadRect) (by rw [View.set_slice]; exact Finset.Subset.refl _)) $$ Hp; iintro Hp
    iapply (wp_load 𝒱₀ (c : Thread nD τ) none Set.univ (m := yM) (r := (slabR k).toLoadRect) (by rw [View.set_slice]; exact Finset.Subset.refl _)) $$ Hy; iintro Hy
    iapply (wp_load 𝒱₀ (c : Thread nD τ) none Set.univ (m := oM) (r := (ownR' c k).toLoadRect) (loadO c k)) $$ Ho; iintro Ho
    iapply (wp_store 𝒱₀ (c : Thread nD τ) none Set.univ (m := oM) (r := ownR' c k) (Mk := Finset.univ) (storeO c k)) $$ Ho; iintro Ho
    ihave Ho := (storedX A W c k f) $$ Ho
    -- the copy along `x`
    iapply (wp_copy A W K c (devX c) (xp c) (devX_eq c) (2, k) (3, k) (xsS k) (xrS k) rfl rfl (oS c k) (oS c k) (dues (xp c) 3 rest)
      (amountX c k) (out A W c) g (Entails.of_eq rfl) (landX A W c k g)) $$ [Ho Hx Ht2 Ht3 HO]
    · isplitr; · iexact Hk
      isplitl [Ho]; · iexact Ho
      isplitl [Hx]; · iexact Hx
      isplitl [Ht2]; · iexact Ht2
      isplitl [Ht3]; · iexact Ht3
      iexact HO
    iintro ⟨Hq, HO⟩
    rw [wp_ret]; imodintro
    iapply Hcont
    isplitl [Hz0 Hz1 Hp Hy Hq]
    · isplitl [Hz0]; · iexact Hz0
      isplitl [Hz1]; · iexact Hz1
      isplitl [Hp]; · iexact Hp
      isplitl [Hy]; · iexact Hy
      iexact Hq
    isplitr; · iexact Hk
    iexact HO) ks Q

/-! ### The last waits -/

/-- What slab `k`'s last two waits take, -/
def preF (k : Fin 16) : sProp 𝕄 :=
  iprop(cred (tallyAt (cell c (some (2, k))) () N) ∗ cred (tallyAt (cell c (some (3, k))) () N)
    ∗ atPos ER (cell c (some (2, k))) 0 ∅ 0 ∗ atPos ER (cell c (some (3, k))) 0 ∅ 0)
/-- and what they bring: the two cells closed, and both halves' slab of the result. -/
def postF (k : Fin 16) : sProp 𝕄 :=
  iprop(semVal (cell c (some (2, k))) 0 ∗ semVal (cell c (some (3, k))) 0 ∗ oPts c c k (out A W c) ∗ oPts (xp c) c k (out A W c))

theorem rep_finish (ks : List (Fin 16)) (Q : PUnit → sProp 𝕄) :
    iprop(bigSepL ks (preF c) ∗ (known A W K ∗ owing c []) ∗ ((bigSepL ks (postF A W c) ∗ (known A W K ∗ owing c [])) -∗ Q ⟨⟩))
      ⊢ wp frame (wpE (defs₀ (F := F)) 𝒱₀ (c : Thread nD τ) none) Set.univ (rep (finish c) ks) Q :=
  wp_rep c (finish c) (preF c) (postF A W c) (fun _ => iprop(known A W K ∗ owing c [])) (fun k rest Q => by
    unfold finish preF postF
    simp only [Prog.lift, Prog.bind_op, Prog.bind_ret]
    iintro ⟨⟨Hc0, Hc1, Ha0, Ha1⟩, ⟨#Hk, HO⟩, Hcont⟩
    iapply (wp_waitCopy A W K c (2, k) (xsS k) rfl (oS c k) (oS c k) rfl []
      (fun p hp => absurd hp List.not_mem_nil)) $$ [Hc0 HO Ha0]
    · isplitr; · iexact Hk
      isplitl [Hc0]; · iexact Hc0
      isplitl [HO] <;> iassumption
    iintro ⟨HO, Hz0, Ho⟩
    iapply (wp_waitCopy A W K c (3, k) (xrS k) rfl (oS c k) (oS c k) rfl []
      (fun p hp => absurd hp List.not_mem_nil)) $$ [Hc1 HO Ha1]
    · isplitr; · iexact Hk
      isplitl [Hc1]; · iexact Hc1
      isplitl [HO] <;> iassumption
    iintro ⟨HO, Hz1, Hx⟩
    ihave Ho := (Entails.of_eq (pay_2 A W c k)) $$ Ho
    ihave Hx := (Entails.of_eq (pay_3 A W c k)) $$ Hx
    rw [wp_ret]; imodintro
    iapply Hcont
    isplitl [Hz0 Hz1 Ho Hx]
    · isplitl [Hz0]; · iexact Hz0
      isplitl [Hz1]; · iexact Hz1
      isplitl [Ho]; · iexact Ho
      iexact Hx
    isplitr; · iexact Hk
    iexact HO) ks Q

end Steps

end Cert.Dcol

end
-- ==== Proof.Body.lean ====
/-
The body, run from what a device starts with to the result.
-/
module

public import proofs.«01_k».proof.Proof.Steps

@[expose] public section

noncomputable section

namespace Cert.Dcol

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of slabs -/

theorem listSep {ks : List (Fin 16)} (h : ks.Nodup) (Φ Ψ : Fin 16 → sProp 𝕄) :
    bigSepL ks (fun k => iprop(Φ k ∗ Ψ k)) = iprop(bigSepL ks Φ ∗ bigSepL ks Ψ) := by
  rw [← bigSep_eq_bigSepL ks h, ← bigSep_eq_bigSepL ks h, ← bigSep_eq_bigSepL ks h, bigSep_sep']
theorem listSplit (Φ : Fin 16 → sProp 𝕄) : bigSepL ksA Φ = iprop(bigSepL ks0 Φ ∗ bigSepL ks1 Φ) := bigSepL_append ks0 ks1 Φ
theorem listAll (Φ : Fin 16 → sProp 𝕄) : bigSep Finset.univ Φ = bigSepL ksA Φ := bigSep_univ_eq_bigSepL ksA (by decide) (by decide) Φ

/-! ## Buffers and their slabs -/

/-- A device's own buffer, whole. -/
abbrev held (c : Dev nD) (b : Ref sig .tc) (f : Buf (Elt F) (((c : Dev nD) : Thread nD τ).loc b)) : sProp 𝕄 :=
  ((c : Thread nD τ).loc b) ↦{fullShare} f

/-- Rows of the partial product's buffer, and its slabs. -/
theorem p_slabs (c : Dev nD) (ks : List (Fin 16)) (hk : ks.Nodup) (S : Finset S512x1024.Idx)
    (hS : ks.toFinset.biUnion (fun k => (slabR k).set) = S) (f : Vec F S512x1024 .bf16) :
    ((pM : Memref sig .tc .vmem S512x1024 .bf16).view.loc (c : Thread nD τ) ↦[S]{fullShare} f : sProp 𝕄) = bigSepL ks fun k => pPts c k f := by
  rw [← hS, ← bigSep_eq_bigSepL ks hk]
  refine (pointsTo_biUnion _ _ fun t _ t' _ h => slab_disjoint h).trans (bigSep_congr fun k _ => ?_)
  unfold pPts
  rw [View.set_slice_whole]

theorem p_halves (c : Dev nD) (f : Vec F S512x1024 .bf16) :
    held c cc0_scratch0 f ⊢ iprop(((pM : Memref sig .tc .vmem S512x1024 .bf16).view.loc (c : Thread nD τ) ↦[pR0.set]{fullShare} f)
      ∗ ((pM : Memref sig .tc .vmem S512x1024 .bf16).view.loc (c : Thread nD τ) ↦[pR1.set]{fullShare} f)) := by
  rw [p_slabs c ks0 (by decide) _ slab_cover0, p_slabs c ks1 (by decide) _ slab_cover1, ← listSplit,
    ← p_slabs c ksA (by decide) Finset.univ (by rw [← slab_coverA]; rfl)]

theorem p_join (c : Dev nD) (f : Vec F S512x1024 .bf16) : (bigSepL ksA fun k => pPts c k f : sProp 𝕄) ⊢ held c cc0_scratch0 f := by
  rw [← p_slabs c ksA (by decide) Finset.univ (by rw [← slab_coverA]; rfl)]

theorem y_slabs (c : Dev nD) (f : Vec F S512x1024 .bf16) : (held c cc0_scratch1 f : sProp 𝕄) = bigSepL ksA fun k => yPts c k f := by
  rw [← listAll]
  show ((yM : Memref sig .tc .vmem S512x1024 .bf16).view.loc (c : Thread nD τ) ↦[Finset.univ]{fullShare} f : sProp 𝕄) = _
  rw [← slab_coverA]
  refine (pointsTo_biUnion _ _ fun t _ t' _ h => slab_disjoint h).trans (bigSep_congr fun k _ => ?_)
  unfold yPts
  rw [View.set_slice_whole]

theorem o_slabs (c : Dev nD) (f : Vec F S1024x1024 .bf16) :
    (held c cc0_stg2_0 f : sProp 𝕄) = iprop((bigSepL ksA fun k => oPts c c k f) ∗ (bigSepL ksA fun k => oPts (xp c) c k f)) := by
  show ((oM : Memref sig .tc .vmem S1024x1024 .bf16).view.loc (c : Thread nD τ) ↦[Finset.univ]{fullShare} f : sProp 𝕄) = _
  rw [← own_cover c]
  refine (pointsTo_biUnion _ _ fun t _ t' _ h => own_disjoint c h).trans ?_
  rw [bigSep_univ_prod, bigSep_univ_eq_bigSepL [false, true] (by decide) (by decide), bigSepL_cons_cons, bigSepL_singleton, listAll, listAll]
  have h (d : Dev nD) (k : Fin 16) : ((oM : Memref sig .tc .vmem S1024x1024 .bf16).view.loc (c : Thread nD τ) ↦[(ownR d k).set]{fullShare} f : sProp 𝕄) = oPts d c k f := by
    unfold oPts
    rw [View.set_slice_whole]
  simp only [Bool.false_eq_true, if_false, if_true, ← h]
  rfl

theorem y_room (c : Dev nD) (f : Vec F S512x1024 .bf16) : held c cc0_scratch1 f ⊢ (yRoom c : sProp 𝕄) := by
  rw [y_slabs]; unfold yRoom; rw [listAll]
  exact bigSepL_mono fun k _ => by iintro H; iexists f; iexact H
theorem o_room (d c : Dev nD) (f : Vec F S1024x1024 .bf16) : (bigSepL ksA fun k => oPts d c k f) ⊢ (xRoom d c : sProp 𝕄) := by
  unfold xRoom; rw [listAll]
  exact bigSepL_mono fun k _ => by iintro H; iexists f; iexact H

/-! ## The products -/

section Body

variable (A W : Dev nD → Vec F S1024x4096 .f32) (K : Dev nD × CK → ℕ) (c : Dev nD)

theorem hz2 : (![0, 0] : Fin 2 → Nat) = fun _ => 0 := funext fun a => by fin_cases a <;> rfl
theorem read_w (f : Vec F S1024x4096 .f32) : (wM : Memref sig .tc .vmem S1024x4096 .f32).view.readAt (Elt F) wR.toLoadRect f = f :=
  Memref.readAt_unit_zero (Elt F) cc0_stg1_0 hz2 _ f

theorem stored0 (f : Vec F S512x1024 .bf16) :
    (((pM : Memref sig .tc .vmem S512x1024 .bf16).access pR0 : View sig .tc _ _ _).loc (c : Thread nD τ) ↦[pR0.set]{fullShare}
      ((pM : Memref sig .tc .vmem S512x1024 .bf16).access pR0 : View sig .tc _ _ _).write (Elt F) f (k0_pay1 ((aM : Memref sig .tc .vmem S1024x4096 .f32).view.readAt (Elt F) (aR c 0).toLoadRect (A c)) (W c)) Finset.univ : sProp 𝕄)
      ⊢ bigSepL ks0 fun k => pPts c k (partOf A W c) := by
  rw [← p_slabs c ks0 (by decide) _ slab_cover0]
  exact Entails.of_eq (pointsTo_congr fun i hi => write_p0 c (A c) (W c) f i hi)
theorem stored1 (f : Vec F S512x1024 .bf16) :
    (((pM : Memref sig .tc .vmem S512x1024 .bf16).access pR1 : View sig .tc _ _ _).loc (c : Thread nD τ) ↦[pR1.set]{fullShare}
      ((pM : Memref sig .tc .vmem S512x1024 .bf16).access pR1 : View sig .tc _ _ _).write (Elt F) f (k0_pay3 (k0_pay2 ((aM : Memref sig .tc .vmem S1024x4096 .f32).view.readAt (Elt F) (aR c 1).toLoadRect (A c))) (W c)) Finset.univ : sProp 𝕄)
      ⊢ bigSepL ks1 fun k => pPts c k (partOf A W c) := by
  rw [← p_slabs c ks1 (by decide) _ slab_cover1]
  exact Entails.of_eq (pointsTo_congr fun i hi => write_p1 c (A c) (W c) f i hi)

theorem loadP (r : Rect S512x1024) : (pM : Memref sig .tc .vmem S512x1024 .bf16).view.setOn r.toLoadRect.set ⊆ r.set := by
  have h := View.set_slice_whole (κ := .tc) (b := cc0_scratch0) r
  rw [View.set_slice] at h
  exact h.le
theorem storeP (r : Rect S512x1024) : ((pM : Memref sig .tc .vmem S512x1024 .bf16).access r : View sig .tc _ _ _).setOn Finset.univ ⊆ r.set := by
  rw [View.setOn_univ]
  exact (View.set_slice_whole (κ := .tc) (b := cc0_scratch0) r).le

/-- The handshake and the first chunk's product. -/
theorem wp_opening (f : Vec F S512x1024 .bf16) (Q : PUnit → sProp 𝕄) :
    iprop(known A W K ∗ owing c (dueS c)
        ∗ dutyTok ER (cell (yp c) none) 0 false ∗ dutyTok ER (cell (xp c) none) 0 true ∗ yRoom (F := F) c ∗ xRoom (F := F) (xp c) c
        ∗ cred (tallyAt (cell c none) () 2) ∗ atPos ER (cell c none) 0 ∅ 0
        ∗ held c cc0_stg0_0 (A c) ∗ held c cc0_stg1_0 (W c)
        ∗ ((pM : Memref sig .tc .vmem S512x1024 .bf16).view.loc (c : Thread nD τ) ↦[pR0.set]{fullShare} f)
        ∗ ((owing c (due0 c) ∗ yRoom (F := F) (yp c) ∗ xRoom (F := F) c (xp c) ∗ semVal (cell c none) 0
            ∗ held c cc0_stg0_0 (A c) ∗ held c cc0_stg1_0 (W c) ∗ (bigSepL ks0 fun k => pPts c k (partOf A W c))) -∗ Q ⟨⟩))
      ⊢ wp frame (wpE (defs₀ (F := F)) 𝒱₀ (c : Thread nD τ) none) Set.univ (opening c) Q := by
  unfold opening owing
  simp only [semSignalWord, semWaitWord, Prog.lift, Prog.bind_op, Prog.bind_ret, dev1_eq c, dev2_eq c]
  iintro ⟨#Hk, ⟨%Ws, HO⟩, Ht0, Ht1, Hy, Hx, Hc, Hat, Ha, Hw, Hp, Hcont⟩
  simp only [owe]
  -- the signal to the neighbour along `y`, with room for its copies
  iapply (Rounds.wp_signal 𝒱₀ ER (sched A W) (c : Thread nD τ) none (dst := (yp c : Thread nD τ)) (κ := K (yp c, none))
      (d := false) (by rw [duties_cell A W (yp c) none]; exact Finset.mem_univ _) ((amount_cell A W (yp c) none false).trans (by decide)) () _ rfl)
    $$ [HO Ht0 Hy]
  · isplitr; · iapply (known_inv A W K (yp c) none); iexact Hk
    isplitl [HO]; · iexact HO
    isplitl [Ht0]; · iexact Ht0
    isplitl [Hy]
    · rw [payload_cell A W (yp c) none]; unfold pay; rw [yp_yp]; iexact Hy
    iapply (known_reached A W K (yp c) none); iexact Hk
  iintro HO
  -- the signal to the neighbour along `x`, with room for its copies
  iapply (Rounds.wp_signal 𝒱₀ ER (sched A W) (c : Thread nD τ) none (dst := (xp c : Thread nD τ)) (κ := K (xp c, none))
      (d := true) (by rw [duties_cell A W (xp c) none]; exact Finset.mem_univ _) ((amount_cell A W (xp c) none true).trans (by decide)) () _ rfl)
    $$ [HO Ht1 Hx]
  · isplitr; · iapply (known_inv A W K (xp c) none); iexact Hk
    isplitl [HO]; · iexact HO
    isplitl [Ht1]; · iexact Ht1
    isplitl [Hx]
    · rw [payload_cell A W (xp c) none]; unfold pay; rw [xp_xp]; iexact Hx
    iapply (known_reached A W K (xp c) none); iexact Hk
  iintro HO
  -- the first chunk's product
  iapply (wp_load 𝒱₀ (c : Thread nD τ) none Set.univ (m := aM) (Finset.subset_univ _)) $$ Ha; iintro Ha
  iapply (wp_load 𝒱₀ (c : Thread nD τ) none Set.univ (m := wM) (Finset.subset_univ _)) $$ Hw; iintro Hw
  iapply (wp_load 𝒱₀ (c : Thread nD τ) none Set.univ (m := pM) (r := pR0.toLoadRect) (loadP pR0)) $$ Hp; iintro Hp
  iapply (wp_store 𝒱₀ (c : Thread nD τ) none Set.univ (m := pM) (r := pR0) (Mk := Finset.univ) (storeP pR0)) $$ Hp; iintro Hp
  rw [read_w]
  ihave Hp := (stored0 A W c f) $$ Hp
  -- both neighbours are there
  iapply (Rounds.wp_wait_rest_token 𝒱₀ ER (sched A W) (c : Thread nD τ) none (κ := K (c, none))
      (wpE_semWait_eq 𝒱₀ (c : Thread nD τ) none Set.univ) (Set.mem_univ _) () (O := owe (due0 c)) (W := Ws) (R := 0) (m := 0) (T := ∅)
      (by rw [expect_bar A W c]; decide)) $$ [Hc HO Hat]
  · isplitr; · iapply (known_inv A W K c none); iexact Hk
    isplitl [Hc]; · iexact Hc
    isplitl [HO]; · iexact HO
    isplitr
    · iapply (mayWait_of c (csem none) (due0 c) (due0_lv c _ (by rw [slv_cell]; exact le_refl _)))
      iapply (known_lev A W K); iexact Hk
    iexact Hat
  iintro ⟨HO, Hat, -, Hpay⟩
  ihave Hpay := (Entails.of_eq (rest_bar A W c)) $$ Hpay
  icases Hpay with ⟨Hy, Hx⟩
  imod (Rounds.cell_close ER (sched A W) (Set.mem_univ (K (c, none))) (fun h => h) (R := 0 + 1) (duties_later A W (cell c none))) $$ [Hat] with Hz
  · isplitr; · iapply (known_inv A W K c none); iexact Hk
    iexact Hat
  rw [wp_ret]; imodintro
  iapply Hcont
  isplitl [HO]; · iexists _; iexact HO
  isplitl [Hy]; · iexact Hy
  isplitl [Hx]; · iexact Hx
  isplitl [Hz]; · iexact Hz
  isplitl [Ha]; · iexact Ha
  isplitl [Hw]; · iexact Hw
  iexact Hp

/-- The second chunk's product. -/
theorem wp_second (f : Vec F S512x1024 .bf16) (Q : PUnit → sProp 𝕄) :
    iprop(held c cc0_stg0_0 (A c) ∗ held c cc0_stg1_0 (W c)
        ∗ ((pM : Memref sig .tc .vmem S512x1024 .bf16).view.loc (c : Thread nD τ) ↦[pR1.set]{fullShare} f)
        ∗ ((held c cc0_stg0_0 (A c) ∗ held c cc0_stg1_0 (W c) ∗ (bigSepL ks1 fun k => pPts c k (partOf A W c))) -∗ Q ⟨⟩))
      ⊢ wp frame (wpE (defs₀ (F := F)) 𝒱₀ (c : Thread nD τ) none) Set.univ (second c) Q := by
  unfold second
  simp only [Prog.lift, Prog.bind_op, Prog.bind_ret]
  iintro ⟨Ha, Hw, Hp, Hcont⟩
  iapply (wp_load 𝒱₀ (c : Thread nD τ) none Set.univ (m := aM) (Finset.subset_univ _)) $$ Ha; iintro Ha
  iapply (wp_load 𝒱₀ (c : Thread nD τ) none Set.univ (m := wM) (Finset.subset_univ _)) $$ Hw; iintro Hw
  iapply (wp_load 𝒱₀ (c : Thread nD τ) none Set.univ (m := pM) (r := pR1.toLoadRect) (loadP pR1)) $$ Hp; iintro Hp
  iapply (wp_store 𝒱₀ (c : Thread nD τ) none Set.univ (m := pM) (r := pR1) (Mk := Finset.univ) (storeP pR1)) $$ Hp; iintro Hp
  rw [read_w]
  ihave Hp := (stored1 A W c f) $$ Hp
  rw [wp_ret]; imodintro
  iapply Hcont
  isplitl [Ha]; · iexact Ha
  isplitl [Hw]; · iexact Hw
  iexact Hp

/-! ## The whole body -/

/-- One resource for every slab. -/
abbrev each (Φ : Fin 4 × Fin 16 → sProp 𝕄) (j : Fin 4) : sProp 𝕄 := bigSepL ksA fun k => Φ (j, k)

/-- The tokens of the copies a device starts. -/
def tokAt (q : Fin 4 × Fin 16) : sProp 𝕄 :=
  dutyTok ER (cell (match q.1 with | ⟨0, _⟩ => c | ⟨1, _⟩ => yp c | ⟨2, _⟩ => c | ⟨_ + 3, _⟩ => xp c) (some q)) 0 false
/-- Its positions, its credits, its closed cells. -/
def posAt (q : Fin 4 × Fin 16) : sProp 𝕄 := atPos ER (cell c (some q)) 0 ∅ 0
def credAt (q : Fin 4 × Fin 16) : sProp 𝕄 := cred (tallyAt (cell c (some q)) () N)
def doneAt (q : Fin 4 × Fin 16) : sProp 𝕄 := semVal (cell c (some q)) 0

theorem make_preY {ks : List (Fin 16)} (h : ks.Nodup) :
    iprop((bigSepL ks fun k => pPts c k (partOf A W c)) ∗ (bigSepL ks fun k => iprop(∃ f, yPts (F := F) (yp c) k f))
        ∗ (bigSepL ks fun k => tokAt c (0, k)) ∗ (bigSepL ks fun k => tokAt c (1, k)))
      ⊢ bigSepL ks (preY A W c) := by
  rw [← listSep h, ← listSep h, ← listSep h]
  exact Entails.refl _

theorem make_preR :
    iprop(bigSepL ksA (postY c) ∗ each (credAt c) 1 ∗ each (posAt c) 0 ∗ each (posAt c) 1
        ∗ (bigSepL ksA fun k => iprop(∃ f, oPts (F := F) c c k f)) ∗ (bigSepL ksA fun k => iprop(∃ f, oPts (F := F) c (xp c) k f))
        ∗ each (tokAt c) 2 ∗ each (tokAt c) 3)
      ⊢ (bigSepL ksA (preR c) : sProp 𝕄) := by
  rw [← listSep (by decide), ← listSep (by decide), ← listSep (by decide), ← listSep (by decide), ← listSep (by decide), ← listSep (by decide), ← listSep (by decide)]
  exact Entails.refl _

theorem take_postR :
    bigSepL ksA (postR A W c) ⊢ iprop(each (doneAt c) 0 ∗ each (doneAt c) 1
        ∗ (bigSepL ksA fun k => pPts c k (partOf A W c)) ∗ (bigSepL ksA fun k => yPts c k (partOf A W (yp c))) ∗ each (credAt c) 2) := by
  rw [← listSep (by decide), ← listSep (by decide), ← listSep (by decide), ← listSep (by decide)]
  exact Entails.refl _

theorem make_preF :
    iprop(each (credAt c) 2 ∗ each (credAt c) 3 ∗ each (posAt c) 2 ∗ each (posAt c) 3) ⊢ (bigSepL ksA (preF c) : sProp 𝕄) := by
  rw [← listSep (by decide), ← listSep (by decide), ← listSep (by decide)]
  exact Entails.refl _

theorem take_postF :
    bigSepL ksA (postF A W c) ⊢ iprop(each (doneAt c) 2 ∗ each (doneAt c) 3
        ∗ (bigSepL ksA fun k => oPts c c k (out A W c)) ∗ (bigSepL ksA fun k => oPts (xp c) c k (out A W c))) := by
  rw [← listSep (by decide), ← listSep (by decide), ← listSep (by decide)]
  exact Entails.refl _

/-- What device `c` has of the protocol when its body starts. -/
def ghost : sProp 𝕄 :=
  iprop(known A W K
    ∗ (dutyTok ER (cell (yp c) none) 0 false ∗ dutyTok ER (cell (xp c) none) 0 true ∗ each (tokAt c) 0 ∗ each (tokAt c) 1 ∗ each (tokAt c) 2 ∗ each (tokAt c) 3)
    ∗ (atPos ER (cell c none) 0 ∅ 0 ∗ each (posAt c) 0 ∗ each (posAt c) 1 ∗ each (posAt c) 2 ∗ each (posAt c) 3)
    ∗ (cred (tallyAt (cell c none) () 2) ∗ each (credAt c) 1 ∗ each (credAt c) 3))

/-- What it has when the body ends: every cell closed. -/
def closedAll : sProp 𝕄 :=
  iprop(semVal (cell c none) 0 ∗ each (doneAt c) 0 ∗ each (doneAt c) 1 ∗ each (doneAt c) 2 ∗ each (doneAt c) 3)

theorem sound_run (Q : PUnit → sProp 𝕄) :
    iprop(ghost A W K c ∗ owing c (dueS c) ∗ held c cc0_stg0_0 (A c) ∗ held c cc0_stg1_0 (W c)
        ∗ (∃ f, held c cc0_stg2_0 f) ∗ (∃ f, held c cc0_scratch0 f) ∗ (∃ f, held c cc0_scratch1 f)
        ∗ ((closedAll c ∗ owing c [] ∗ held c cc0_stg0_0 (A c) ∗ held c cc0_stg1_0 (W c) ∗ held c cc0_stg2_0 (out A W c)
            ∗ held c cc0_scratch0 (partOf A W c) ∗ held c cc0_scratch1 (partOf A W (yp c))) -∗ Q ⟨⟩))
      ⊢ wp frame (wpE (defs₀ (F := F)) 𝒱₀ (c : Thread nD τ) none) Set.univ (run c) Q := by
  unfold run ghost closedAll
  simp only [wp_bind]
  iintro ⟨⟨#Hk, ⟨HtB, HtX, Ht0, Ht1, Ht2, Ht3⟩, ⟨HaB, Ha0, Ha1, Ha2, Ha3⟩, HcB, Hc1, Hc3⟩, HO, Ha, Hw, ⟨%fo, Ho⟩, ⟨%fp, Hp⟩, ⟨%fy, Hy⟩, Hcont⟩
  ihave Hp := (p_halves c fp) $$ Hp
  icases Hp with ⟨Hp0, Hp1⟩
  ihave Ho := (Entails.of_eq (o_slabs c fo)) $$ Ho
  icases Ho with ⟨Hoo, Hox⟩
  ihave Hy := (y_room c fy) $$ Hy
  ihave Hox := (o_room (xp c) c fo) $$ Hox
  ihave Hoo := (o_room c c fo) $$ Hoo
  iapply (wp_opening A W K c fp _)
  isplitr; · iexact Hk
  isplitl [HO]; · iexact HO
  isplitl [HtB]; · iexact HtB
  isplitl [HtX]; · iexact HtX
  isplitl [Hy]; · iexact Hy
  isplitl [Hox]; · iexact Hox
  isplitl [HcB]; · iexact HcB
  isplitl [HaB]; · iexact HaB
  isplitl [Ha]; · iexact Ha
  isplitl [Hw]; · iexact Hw
  isplitl [Hp0]; · iexact Hp0
  iintro ⟨HO, Hy, Hox, HzB, Ha, Hw, Hp0⟩
  ihave Hy := (show yRoom (F := F) (yp c) ⊢ _ from Entails.of_eq ((listAll _).trans (listSplit _))) $$ Hy
  icases Hy with ⟨Hy0, Hy1⟩
  ihave Ht0 := (Entails.of_eq (listSplit _)) $$ Ht0
  icases Ht0 with ⟨Ht00, Ht01⟩
  ihave Ht1 := (Entails.of_eq (listSplit _)) $$ Ht1
  icases Ht1 with ⟨Ht10, Ht11⟩
  ihave Hpre := (make_preY A W c (ks := ks0) (by decide)) $$ [Hp0 Hy0 Ht00 Ht10]
  · isplitl [Hp0]; · iexact Hp0
    isplitl [Hy0]; · iexact Hy0
    isplitl [Ht00] <;> iassumption
  iapply (rep_sendY A W K c ks0 (due1 c) _)
  isplitl [Hpre]; · iexact Hpre
  isplitl [HO]
  · isplitr; · iexact Hk
    iexact HO
  iintro ⟨Hq0, -, HO⟩
  iapply (wp_second A W c fp _)
  isplitl [Ha]; · iexact Ha
  isplitl [Hw]; · iexact Hw
  isplitl [Hp1]; · iexact Hp1
  iintro ⟨Ha, Hw, Hp1⟩
  ihave Hpre := (make_preY A W c (ks := ks1) (by decide)) $$ [Hp1 Hy1 Ht01 Ht11]
  · isplitl [Hp1]; · iexact Hp1
    isplitl [Hy1]; · iexact Hy1
    isplitl [Ht01] <;> iassumption
  iapply (rep_sendY A W K c ks1 (dueX c) _)
  isplitl [Hpre]; · iexact Hpre
  isplitl [HO]
  · isplitr; · iexact Hk
    iexact HO
  iintro ⟨Hq1, -, HO⟩
  ihave Hq := (Entails.of_eq (listSplit (postY (F := F) c)).symm) $$ [Hq0 Hq1]
  · isplitl [Hq0] <;> iassumption
  ihave Hoo := (show xRoom (F := F) c c ⊢ _ from Entails.of_eq (listAll _)) $$ Hoo
  ihave Hox := (show xRoom (F := F) c (xp c) ⊢ _ from Entails.of_eq (listAll _)) $$ Hox
  ihave Hpre := (make_preR c) $$ [Hq Hc1 Ha0 Ha1 Hoo Hox Ht2 Ht3]
  · isplitl [Hq]; · iexact Hq
    isplitl [Hc1]; · iexact Hc1
    isplitl [Ha0]; · iexact Ha0
    isplitl [Ha1]; · iexact Ha1
    isplitl [Hoo]; · iexact Hoo
    isplitl [Hox]; · iexact Hox
    isplitl [Ht2] <;> iassumption
  iapply (rep_reduce A W K c ksA _)
  isplitl [Hpre]; · iexact Hpre
  isplitl [HO]
  · isplitr; · iexact Hk
    iexact HO
  iintro ⟨Hq, -, HO⟩
  ihave Hq := (take_postR A W c) $$ Hq
  icases Hq with ⟨Hz0, Hz1, Hp, Hy, Hc2⟩
  ihave Hpre := (make_preF c) $$ [Hc2 Hc3 Ha2 Ha3]
  · isplitl [Hc2]; · iexact Hc2
    isplitl [Hc3]; · iexact Hc3
    isplitl [Ha2] <;> iassumption
  iapply (rep_finish A W K c ksA _)
  isplitl [Hpre]; · iexact Hpre
  isplitl [HO]
  · isplitr; · iexact Hk
    iexact HO
  iintro ⟨Hq, -, HO⟩
  ihave Hq := (take_postF A W c) $$ Hq
  icases Hq with ⟨Hz2, Hz3, Hoo, Hox⟩
  ihave Ho := (Entails.of_eq (o_slabs c (out A W c)).symm) $$ [Hoo Hox]
  · isplitl [Hoo] <;> iassumption
  ihave Hp := (p_join c (partOf A W c)) $$ Hp
  ihave Hy := (Entails.of_eq (y_slabs c (partOf A W (yp c))).symm) $$ Hy
  iapply Hcont
  isplitl [HzB Hz0 Hz1 Hz2 Hz3]
  · isplitl [HzB]; · iexact HzB
    isplitl [Hz0]; · iexact Hz0
    isplitl [Hz1]; · iexact Hz1
    isplitl [Hz2] <;> iassumption
  isplitl [HO]; · iexact HO
  isplitl [Ha]; · iexact Ha
  isplitl [Hw]; · iexact Hw
  isplitl [Ho]; · iexact Ho
  isplitl [Hp] <;> iassumption

end Body

end Cert.Dcol

end
-- ==== Proof.Launch.lean ====
/-
The run of the whole program: what the launch deals, the body on every device, and what is left at the end.
-/
module

public import proofs.«01_k».proof.Proof.Body
public import proofs.«01_k».proof.Proof.Gen.KernelIdeal.Frame
public import Idealize.ShloMosaic.Lib.Pipeline.CollectiveSegs

@[expose] public section

noncomputable section

namespace Cert.Dcol

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- Device `c`'s block of `dy`, as staged, -/
def stA (c : Dev nD) : Vec F S1024x4096 .f32 := (win0_0.blk t0_0).view.read (Elt F) ((s₀ m ρ).mem ((c : Thread nD τ).loc main_arg0))
/-- and of `W`. -/
def stW (c : Dev nD) : Vec F S1024x4096 .f32 := (win0_1.blk t0_0).view.read (Elt F) ((s₀ m ρ).mem ((c : Thread nD τ).loc main_arg1))

abbrev A : Dev nD → Vec F S1024x4096 .f32 := stA m ρ
abbrev W : Dev nD → Vec F S1024x4096 .f32 := stW m ρ

/-- What device `c` owes at launch. -/
def O₀ (c : Dev nD) : CellTallies nD τ sig Unit := owe (dueS c)

/-! ## The pipeline's data -/

/-- What a device holds when its body starts, -/
def Φ₀ (c : Dev nD) : sProp 𝕄 :=
  iprop((∃ K, ghost (A m ρ) (W m ρ) K c) ∗ (∃ f, held c cc0_scratch0 f) ∗ (∃ f, held c cc0_scratch1 f))
/-- and when it has ended. -/
def Φ₁ (c : Dev nD) : sProp 𝕄 := iprop(closedAll c ∗ (∃ f, held c cc0_scratch0 f) ∗ (∃ f, held c cc0_scratch1 f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stA m ρ c
    | ⟨1, _⟩ => stW m ρ c
    | ⟨2, _⟩ => out (A m ρ) (W m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 (stA m ρ c) ∗ stg c cc0_stg1_0 (stW m ρ c) ∗ stg c cc0_stg2_0 (out (A m ρ) (W m ρ) c))

/-- The body on device `c`. -/
theorem sound_body (c : Dev nD) :
    bodyPre m ρ c ⊢ wp frame (wpE (defs₀ (F := F)) 𝒱₀ (c : Thread nD τ) none) Set.univ
      (cc0_body (F := F) aM (Memref.isWhole_whole _) wM (Memref.isWhole_whole _) oM (Memref.isWhole_whole _) pM (Memref.isWhole_whole _)
        yM (Memref.isWhole_whole _) cc0_scratch2 cc0_scratch3 cc0_scratch4 cc0_scratch5) (fun _ => bodyPost m ρ c) := by
  rw [body_eq]
  simp only [Prog.lift, Prog.bind_op, Prog.bind_ret, wp_deviceId]
  unfold bodyPre Φ₀
  iintro ⟨⟨⟨%K, Hg⟩, Hp, Hy⟩, Ho, ⟨%d0, %g0, %hg0, Ha⟩, ⟨%d1, %g1, %hg1, Hw⟩, ⟨%d2, %g2, %hg2, Hr⟩⟩
  have ha : g0 = stA m ρ c := by rw [hg0]; unfold Dat.before; rw [if_pos (fetch0_0 t0_0)]; rfl
  have hw : g1 = stW m ρ c := by rw [hg1]; unfold Dat.before; rw [if_pos (fetch0_1 t0_0)]; rfl
  subst ha
  subst hw
  unfold Dat.owesAt Pipeline.owesWithin
  icases Ho with ⟨%Ws, %hW, HO⟩
  rw [show (dats m ρ 0 c).owed t0_0.castSucc = owe (dueS c) from rfl]
  iapply (sound_run (A m ρ) (W m ρ) K c (fun _ => bodyPost m ρ c))
  isplitl [Hg]; · iexact Hg
  isplitl [HO]; · unfold owing; iexists Ws; iexact HO
  isplitl [Ha]; · iexact Ha
  isplitl [Hw]; · iexact Hw
  isplitl [Hr]; · iexists g2; iexact Hr
  isplitl [Hp]; · iexact Hp
  isplitl [Hy]; · iexact Hy
  unfold owing
  iintro ⟨Hz, ⟨%Ws', HO⟩, Ha, Hw, Hr, Hp, Hy⟩
  unfold bodyPost Φ₁ Dat.owesAt Pipeline.owesWithin
  rw [show (dats m ρ 0 c).owed t0_0.succ = 0 from rfl]
  isplitl [Hz Hp Hy]
  · isplitl [Hz]; · iexact Hz
    isplitl [Hp]; · iexists _; iexact Hp
    iexists _; iexact Hy
  isplitl [HO]
  · iexists Ws'
    isplitr; · ipureintro; exact fun _ _ => Or.inl trivial
    iexact HO
  isplitl [Ha]
  · iexists _; isplitr; · (ipureintro; rfl)
    iexact Ha
  isplitl [Hw]
  · iexists _; isplitr; · (ipureintro; rfl)
    iexact Hw
  iexists _; isplitr; · (ipureintro; rfl)
  iexact Hr

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have h1 : (dats m ρ 0 c).Φ t0_0.castSucc = Φ₀ m ρ c := rfl
  have h2 : (dats m ρ 0 c).Φ t0_0.succ = Φ₁ c := rfl
  have h3 : defs₀ (F := F) Proc.tc 0 (t0_0, cfg0.slots t0_0) = bodyAt0 t0_0 := rfl
  have h4 : bodyAt0 (F := F) t0_0 = cc0_body (F := F) aM (Memref.isWhole_whole _) wM (Memref.isWhole_whole _) oM (Memref.isWhole_whole _) pM (Memref.isWhole_whole _)
        yM (Memref.isWhole_whole _) cc0_scratch2 cc0_scratch3 cc0_scratch4 cc0_scratch5 := rfl
  have h5 : (dats m ρ 0 c).after 0 t0_0 = stA m ρ c := rfl
  have h6 : (dats m ρ 0 c).after 1 t0_0 = stW m ρ c := rfl
  have h7 : (dats m ρ 0 c).after 2 t0_0 = out (A m ρ) (W m ρ) c := rfl
  rw [h1, h2, h3, h4, h5, h6, h7]
  have h := sound_body m ρ c
  unfold bodyPre bodyPost stg at h
  refine Entails.trans (Entails.of_eq ?_) (h.trans (Entails.of_eq ?_))
  · with_reducible rfl
  · with_reducible rfl

/-! ## What the launch deals -/

theorem ownSemFacts : Pipeline.OwnSemFacts cfg0.spec osem := by decide +kernel

theorem share_eq (c : Dev nD) (w : Fin cfg0.W) : (dats m ρ 0 c).share w = fullShare := by unfold Dat.share; split <;> rfl

abbrev kcell (q : Dev nD × CK) : GSem nD τ sig := cell q.1 q.2
theorem kcell_injective : Function.Injective kcell := fun q q' h => Prod.ext (cell_inj.mp h).1 (cell_inj.mp h).2
def allCells : Finset (GSem nD τ sig) := Finset.univ.map ⟨kcell, kcell_injective⟩

/-- The duties of a device's cells: two at the barrier, one at every copy's. -/
abbrev Du : Type := Bool ⊕ (Fin 4 × Fin 16)
abbrev duCell : Du → CK
  | .inl _ => none
  | .inr q => some q
abbrev duName : Du → Bool
  | .inl b => b
  | .inr _ => false
abbrev tokOf (q : Dev nD × Du) : GSem nD τ sig × ℕ × Bool := (cell q.1 (duCell q.2), 0, duName q.2)
theorem tokOf_injective : Function.Injective tokOf := by
  rintro ⟨c, t⟩ ⟨c', t'⟩ h
  have h1 := cell_inj.mp (congrArg Prod.fst h)
  have h2 : duName t = duName t' := congrArg (fun x : GSem nD τ sig × ℕ × Bool => x.2.2) h
  refine Prod.ext h1.1 ?_
  have h3 : duCell t = duCell t' := h1.2
  match t, t' with
  | .inl _, .inl _ => exact congrArg Sum.inl h2
  | .inr _, .inr _ => exact congrArg Sum.inr (Option.some.inj h3)
  | .inl _, .inr _ => exact absurd h3 (by simp)
  | .inr _, .inl _ => exact absurd h3 (by simp)
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of device `c`'s own cells, -/
def toks (c : Dev nD) : sProp 𝕄 := bigSep Finset.univ fun t : Du => dutyTok ER (cell c (duCell t)) 0 (duName t)

/-- and who pays them: an involution. -/
def payee (c : Dev nD) : Du → Dev nD
  | .inl false => yp c
  | .inl true => xp c
  | .inr (⟨0, _⟩, _) => c
  | .inr (⟨1, _⟩, _) => yp c
  | .inr (⟨2, _⟩, _) => c
  | .inr (⟨_ + 3, _⟩, _) => xp c
theorem payee_payee (t : Du) (c : Dev nD) : payee (payee c t) t = c := by
  unfold payee
  split <;> first | exact yp_yp c | exact xp_xp c | rfl
def payeeEquiv : Dev nD × Du ≃ Dev nD × Du :=
  ⟨fun q => (payee q.1 q.2, q.2), fun q => (payee q.1 q.2, q.2), fun q => Prod.ext (payee_payee q.2 q.1) rfl, fun q => Prod.ext (payee_payee q.2 q.1) rfl⟩

def payToks (c : Dev nD) : sProp 𝕄 := bigSep Finset.univ fun t : Du => dutyTok ER (cell (payee c t) (duCell t)) 0 (duName t)

theorem toks_around : (bigSep Finset.univ fun c : Dev nD => (toks c : sProp 𝕄)) = bigSep Finset.univ fun c : Dev nD => payToks c := by
  unfold toks payToks
  rw [← bigSep_univ_prod (fun q : Dev nD × Du => (dutyTok ER (cell q.1 (duCell q.2)) 0 (duName q.2) : sProp 𝕄)),
    ← bigSep_univ_prod (fun q : Dev nD × Du => (dutyTok ER (cell (payee q.1 q.2) (duCell q.2)) 0 (duName q.2) : sProp 𝕄))]
  exact bigSep_univ_equiv payeeEquiv _

/-- What the launch element deals device `c`. -/
def G (c : Dev nD) : sProp 𝕄 :=
  iprop((bigSep Finset.univ fun x : CK => roundState ER (sched (A m ρ) (W m ρ)) (cell c x) 0)
    ∗ (bigSep Finset.univ fun x : CK => iprop(atPos ER (cell c x) 0 ∅ 0 ∗ reached ER (cell c x) 0)) ∗ toks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : CK => Φ (cell c x) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (sched (A m ρ) (W m ρ)) allCells allToks) $$ HX with ⟨Hst, Hr, Hat, Htok⟩
  imodintro
  ihave Hst' := (Entails.of_eq (hX fun g => roundState ER (sched (A m ρ) (W m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores: the barrier's and the copies'. -/
theorem bigSep_CK (Φ : CK → sProp 𝕄) : bigSep Finset.univ Φ = iprop(Φ none ∗ bigSep Finset.univ fun q : Fin 4 × Fin 16 => Φ (some q)) := by
  rw [bigSep_univ_at _ none,
    show (Finset.univ.erase none : Finset CK) = (Finset.univ : Finset (Fin 4 × Fin 16)).map ⟨some, Option.some_injective _⟩ by decide +kernel, bigSep_map]
  rfl
theorem bigSep_copies (Φ : Fin 4 × Fin 16 → sProp 𝕄) : bigSep Finset.univ Φ = iprop(each Φ 0 ∗ each Φ 1 ∗ each Φ 2 ∗ each Φ 3) := by
  rw [bigSep_univ_prod, bigSep_univ_eq_bigSepL [0, 1, 2, 3] (by decide) (by decide), bigSepL_cons_cons, bigSepL_cons_cons, bigSepL_cons_cons, bigSepL_singleton,
    listAll, listAll, listAll, listAll]
  rfl

/-- The tokens device `c` pays with, by kind. -/
theorem payToks_split (c : Dev nD) : (payToks c : sProp 𝕄) ⊢ iprop(dutyTok ER (cell (yp c) none) 0 false ∗ dutyTok ER (cell (xp c) none) 0 true
      ∗ each (tokAt c) 0 ∗ each (tokAt c) 1 ∗ each (tokAt c) 2 ∗ each (tokAt c) 3) := by
  unfold payToks
  rw [bigSep_univ_sum, bigSep_univ_eq_bigSepL [false, true] (by decide) (by decide), bigSepL_cons_cons, bigSepL_singleton, bigSep_copies]
  exact BI.sep_assoc

theorem unscopedSems0_eq (c : Dev nD) : (unscopedSems0 c : sProp 𝕄) = semVal (cell c none) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (cell c x) 0 : sProp 𝕄) := by
  rw [unscopedSems0_eq, bigSep_CK]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : CK => iprop(∃ κ : ℕ, cellInv ER (sched (A m ρ) (W m ρ)) κ (cell c x)))
          ∗ (bigSep Finset.univ fun x : CK => iprop(atPos ER (cell c x) 0 ∅ 0 ∗ reached ER (cell c x) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CK => semVal (cell c x) 0) ∗ bigSep Finset.univ fun x : CK => roundState ER (sched (A m ρ) (W m ρ)) (cell c x) 0)
      ⊢ (|={Set.univ}=> bigSep Finset.univ fun x : CK => iprop(∃ κ : ℕ, cellInv ER (sched (A m ρ) (W m ρ)) κ (cell c x)) : sProp 𝕄) from by
        rw [← bigSep_sep']
        exact (bigSep_mono fun x _ => (Rounds.body_intro ER (sched (A m ρ) (W m ρ)) (cell c x)).trans inv_alloc).trans (bigSep_fupd _ _)) $$ [Hv Hst] with Hinv
  · isplitl [Hv] <;> iassumption
  imodintro
  isplitl [Hinv]; · iexact Hinv
  isplitl [Hat]; · iexact Hat
  iexact Htok

/-- What of the protocol is shared by all devices. -/
def shared (K : Dev nD × CK → ℕ) : sProp 𝕄 :=
  iprop((bigSep Finset.univ fun q : Dev nD × CK => cellInv ER (sched (A m ρ) (W m ρ)) (K q) (cell q.1 q.2))
    ∗ (bigSep Finset.univ fun q : Dev nD × CK => reached ER (cell q.1 q.2) 0))
instance shared_persistent (K : Dev nD × CK → ℕ) : BI.Persistent (shared m ρ K) := by unfold shared; infer_instance

/-- What the global step makes for device `c`. -/
def G' (c : Dev nD) : sProp 𝕄 := iprop(∃ K, shared m ρ K ∗ (bigSep Finset.univ fun x : CK => atPos ER (cell c x) 0 ∅ 0) ∗ payToks c)

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (sched (A m ρ) (W m ρ)) κ (cell c x)))
          ∗ (bigSep Finset.univ fun x : CK => iprop(atPos ER (cell c x) 0 ∅ 0 ∗ reached ER (cell c x) 0)) ∗ toks c) : sProp 𝕄)
      ⊢ bigSep Finset.univ (G' m ρ) := by
  rw [bigSep_sep', bigSep_sep', ← bigSep_univ_prod (fun q : Dev nD × CK => iprop(∃ κ : ℕ, cellInv ER (sched (A m ρ) (W m ρ)) κ (cell q.1 q.2))),
    bigSep_congr (s := Finset.univ) (fun (c : Dev nD) _ => bigSep_sep' Finset.univ (fun x : CK => (atPos ER (cell c x) 0 ∅ 0 : sProp 𝕄)) (fun x => reached ER (cell c x) 0)),
    bigSep_sep', ← bigSep_univ_prod (fun q : Dev nD × CK => (reached ER (cell q.1 q.2) 0 : sProp 𝕄)), toks_around]
  iintro ⟨HI, ⟨Hat, #HR⟩, Htok⟩
  ihave HK := (BI.bigSep_exists_pi Finset.univ (fun (q : Dev nD × CK) (κ : ℕ) => (cellInv ER (sched (A m ρ) (W m ρ)) κ (cell q.1 q.2) : sProp 𝕄))) $$ HI
  icases HK with ⟨%K, #HI⟩
  iapply (with_shared (R := shared m ρ K) (Φ := fun c : Dev nD => iprop((bigSep Finset.univ fun x : CK => atPos ER (cell c x) 0 ∅ 0) ∗ payToks c)) fun c _ => by
    unfold G'
    iintro ⟨Hs, Ha, Ht⟩
    iexists K
    isplitl [Hs]; · iexact Hs
    isplitl [Ha] <;> iassumption)
  isplitr
  · unfold shared; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit dealt for what is owed -/

/-- All that is owed a cell of any device. -/
def total : CK → ℕ
  | none => 2
  | some q => N * (if q.1 = 1 ∨ q.1 = 3 then 1 else 0)

theorem sum_at (e : Dev nD → Dev nD) (he : ∀ c, e (e c) = c) (c : Dev nD) (p : Prop) [Decidable p] (n : ℕ) :
    (∑ d : Dev nD, if e d = c ∧ p then n else 0) = if p then n else 0 := by
  by_cases hp : p
  · rw [if_pos hp, Finset.sum_eq_single (e c)]
    · rw [if_pos ⟨he c, hp⟩]
    · intro d _ hd
      exact if_neg fun h => hd (by rw [← h.1, he])
    · intro h; exact absurd (Finset.mem_univ _) h
  · rw [if_neg hp]
    exact Finset.sum_eq_zero fun d _ => if_neg fun h => hp h.2

theorem owed_bar (e c : Dev nD) (x : CK) : (if cell e none = cell c x then 1 else 0) = if e = c ∧ none = x then 1 else 0 := by
  by_cases h : e = c ∧ none = x
  · rw [if_pos h, if_pos (cell_inj.mpr h)]
  · rw [if_neg h, if_neg fun h' => h (cell_inj.mp h')]

theorem owed_all (c : Dev nD) (x : CK) : (∑ d : Dev nD, O₀ d (cell c x) ()) = total x := by
  have h (d : Dev nD) : O₀ d (cell c x) () = (if yp d = c ∧ none = x then 1 else 0) + ((if xp d = c ∧ none = x then 1 else 0)
      + ((if yp d = c ∧ (∃ k ∈ ks0, x = some (1, k)) then N else 0) + ((if yp d = c ∧ (∃ k ∈ ks1, x = some (1, k)) then N else 0)
        + (if xp d = c ∧ (∃ k ∈ ksA, x = some (3, k)) then N else 0)))) := by
    unfold O₀
    rw [owe_apply, List.map_cons, List.sum_cons, List.map_cons, List.sum_cons, List.map_append, List.sum_append, List.map_append, List.sum_append,
      owe_dues _ _ _ _ (by decide), owe_dues _ _ _ _ (by decide), owe_dues _ _ _ _ (by decide), owed_bar, owed_bar]
  rw [Finset.sum_congr rfl fun d _ => h d]
  simp only [Finset.sum_add_distrib]
  rw [sum_at yp yp_yp, sum_at xp xp_xp, sum_at yp yp_yp, sum_at yp yp_yp, sum_at xp xp_xp]
  cases x with
  | none => simp [total]
  | some q =>
    have hq : ∀ q : Fin 4 × Fin 16, (if (∃ k ∈ ks0, (some q : CK) = some (1, k)) then 1 else 0) + ((if (∃ k ∈ ks1, (some q : CK) = some (1, k)) then 1 else 0)
        + (if (∃ k ∈ ksA, (some q : CK) = some (3, k)) then 1 else 0)) = if q.1 = 1 ∨ q.1 = 3 then 1 else 0 := by decide +kernel
    have hN (p : Prop) [Decidable p] : (if p then N else 0) = N * (if p then 1 else 0) := by by_cases hp : p <;> simp [hp]
    rw [if_neg (by simp), zero_add, zero_add, hN, hN, hN, ← Nat.mul_add, ← Nat.mul_add, hq q]
    rfl

theorem launch_cell (c : Dev nD) (x : CK) :
    tallyOn (cell c x) (launchCredit (Pipeline.owing O₀) 0 (cell c x)) = (tallyAt (cell c x) () (total x) : CellTallies nD τ sig Unit) := by
  unfold tallyAt; refine congrArg _ (Finsupp.ext fun u => ?_); cases u
  rw [Pipeline.launchCredit_owing, Finsupp.single_eq_same, owed_all]

theorem csem_injective : Function.Injective csem := fun x x' h => by
  have h2 : dec (csem x) = dec (csem x') := congrArg dec h
  rw [dec_csem, dec_csem] at h2
  exact Option.some.inj h2

theorem creds (c : Dev nD) :
    (Pipeline.launchCred O₀ c : sProp 𝕄) ⊢ iprop(cred (tallyAt (cell c none) () 2) ∗ each (credAt c) 1 ∗ each (credAt c) 3) := by
  unfold Pipeline.launchCred
  refine (bigSep_subset (t := (Finset.univ : Finset CK).map ⟨csem, csem_injective⟩) (Finset.subset_univ _)).trans ?_
  rw [bigSep_map]
  refine (Entails.of_eq (bigSep_congr fun x _ => congrArg cred (launch_cell c x))).trans ?_
  rw [bigSep_CK, bigSep_copies]
  iintro ⟨HB, -, H1, -, H3⟩
  isplitl [HB]; · iexact HB
  isplitl [H1]; · iexact H1
  iexact H3

/-! ## Before and after the body -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop((∃ K, ghost (A m ρ) (W m ρ) K c) ∗ emp) := by
  unfold G' shared ghost known
  rw [bigSep_CK, bigSep_copies]
  iintro ⟨-, Hlev, Hcr, -, ⟨%K, ⟨HI, HR⟩, ⟨HaB, Ha⟩, Ht⟩⟩
  ihave Ht' := (payToks_split (F := F) c) $$ Ht
  ihave Hc := (creds (F := F) c) $$ Hcr
  imodintro
  isplitl
  · iexists K
    isplitl [HI HR Hlev]
    · isplitl [HI]; · iexact HI
      isplitl [HR] <;> iassumption
    isplitl [Ht']; · iexact Ht'
    isplitl [HaB Ha]
    · isplitl [HaB]; · iexact HaB
      iexact Ha
    iexact Hc
  · iempintro

theorem phi0_intro (c : Dev nD) :
    iprop((∃ K, ghost (A m ρ) (W m ρ) K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ closedAll Pipeline.ownSems0
  rw [bigSep_copies]
  iintro ⟨⟨HzB, Hz⟩, Hr⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    have hs : slv (SemLoc.dma ((cfg0.win w).sem s)) = 0 := by fin_cases w <;> fin_cases s <;> decide +kernel
    rcases t with ⟨_ | _, ht⟩
    · exact mayWait_of c _ (dueS c) fun p hp => ⟨(dueS_lv c p hp).1, by rw [hs]; exact (dueS_lv c p hp).2⟩
    · exact mayWait_of c _ [] fun p hp => absurd hp List.not_mem_nil

/-! ## The run -/

/-- What the arrays of device `c` hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its counters at zero every run of the program on the four devices ends, with every device's
    arrays holding `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := fun c => iprop(∃ K, ghost (A m ρ) (W m ρ) K c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_arg0 (c : Dev nD) : finalA m ρ c (0 : Fin 3) = (s₀ m ρ).mem (win0_0.arr.view.loc (c : Thread nD τ)) :=
  (dats (F := F) m ρ 0 c).arrAt_in (0 : Fin 3) rfl _
theorem finalA_arg1 (c : Dev nD) : finalA m ρ c (1 : Fin 3) = (s₀ m ρ).mem (win0_1.arr.view.loc (c : Thread nD τ)) :=
  (dats (F := F) m ρ 0 c).arrAt_in (1 : Fin 3) rfl _

end Cert.Dcol

end
-- ==== Proof.Product.lean ====
/-
The mathematics of the value claim: a sum over 8192 terms is its two halves' sums, in either order.
-/
module

public import Mathlib.Algebra.BigOperators.Fin
public import Mathlib.Data.EReal.Operations
public import Mathlib.Tactic.FinCases

@[expose] public section

namespace Cert.Dcol

open scoped BigOperators

/-- Position `k` of half `b` of a range of 8192. -/
def inHalf (b : Fin 2) (k : Fin 4096) : Fin 8192 := ⟨b.val * 4096 + k.val, by omega⟩

/-- A sum over a range is the sum over its first part and the sum over its second, -/
theorem sum_parts {N a b : ℕ} (h : N = a + b) (f : Fin N → EReal) :
    (∑ k, f k) = (∑ k : Fin a, f ⟨k.val, by omega⟩) + ∑ k : Fin b, f ⟨a + k.val, by omega⟩ := by
  subst h
  exact Fin.sum_univ_add f

/-- so a sum over 8192 terms is its two halves' sums. -/
theorem sum_halves (f : Fin 8192 → EReal) : (∑ k, f k) = (∑ k, f (inHalf 0 k)) + ∑ k, f (inHalf 1 k) := by
  rw [sum_parts (a := 4096) (b := 4096) rfl f]
  have h0 (k : Fin 4096) : (⟨k.val, by omega⟩ : Fin 8192) = inHalf 0 k := Fin.ext (by unfold inHalf; simp)
  have h1 (k : Fin 4096) : (⟨4096 + k.val, by omega⟩ : Fin 8192) = inHalf 1 k := Fin.ext (by unfold inHalf; simp)
  simp only [h0, h1]

/-- The two halves may be taken in either order. -/
theorem sum_halves_of (f : Fin 8192 → EReal) (b b' : Fin 2) (h : b ≠ b') :
    (∑ k, f (inHalf b k)) + (∑ k, f (inHalf b' k)) = ∑ k, f k := by
  rw [sum_halves]
  fin_cases b <;> fin_cases b'
  · exact absurd rfl h
  · rfl
  · exact add_comm _ _
  · exact absurd rfl h

end Cert.Dcol

end
-- ==== Proof.Value.lean ====
/-
The value: over the extended reals the result of every device is the product of the whole `dy` with the whole `W`
transposed, and so is the reference's.
-/
module

public import proofs.«01_k».proof.Proof.Launch
public import proofs.«01_k».proof.Proof.Product
public import proofs.«01_k».proof.Defs
public import proofs.«01_k».proof.Proof.Gen.ReferenceIdeal.Run
public import Idealize.ShloMosaic.Lib.Pipeline.Value
public import Idealize.ShloMosaic.Lib.ValueIdx
public import Idealize.ShloMosaic.Lib.MatmulPlain
public import Idealize.ShloMosaic.Lib.StackMember
public import Idealize.ShloMosaic.Lib.ValueLayout

@[expose] public section

noncomputable section

namespace Cert.Dcol

open Cert.KernelIdeal Cert.KernelIdeal.Gen
open Idealize.ShloMosaic Idealize.ShloMosaic.TcCoe Idealize.ShloMosaic.ValueIdx
open scoped BigOperators

section Arrays
variable {F : FTy → Type} [FloatOps F]
variable (m : (ℓ : Loc nD τ sig) → Buf (Elt F) ℓ) (ρ : Dev nD → PrngReg)

/-- The staged blocks are the argument arrays, -/
theorem stA_eq (c : Dev nD) : stA m ρ c = m ((c : Thread nD τ).loc main_arg0) :=
  Memref.read_access_unit_zero (Elt F) main_arg0 (funext fun a => by fin_cases a <;> decide) (fun a => by fin_cases a <;> decide) _
theorem stW_eq (c : Dev nD) : stW m ρ c = m ((c : Thread nD τ).loc main_arg1) :=
  Memref.read_access_unit_zero (Elt F) main_arg1 (funext fun a => by fin_cases a <;> decide) (fun a => by fin_cases a <;> decide) _

/-- and the result array is what the body leaves. -/
theorem finalA_out (c : Dev nD) : finalA m ρ c (2 : Fin 3) = out (A m ρ) (W m ρ) c := by
  have h : (win0_2.blk t0_0).view.read (Elt F) (finalA m ρ c (2 : Fin 3)) = out (A m ρ) (W m ρ) c := by
    unfold finalA
    rw [show cfg0.N = t0_0.val + 1 from rfl, (dats m ρ 0 c).arrAt_succ (2 : Fin 3) t0_0, if_pos (flush0_2 t0_0)]
    exact View.read_write_univ _ _
  exact (Memref.read_access_unit_zero (Elt F) main_v1 (funext fun a => by fin_cases a <;> decide) (fun a => by fin_cases a <;> decide) _).symm.trans h

end Arrays

/-! ## A device's part -/

theorem pair_eq {a b : ℕ} (r : Fin a) (s : Fin b) : Shape.pair (d := ![a, b]) r s = ix2 r s := by
  funext x; match x with | ⟨0, _⟩ => rfl | ⟨1, _⟩ => rfl

/-- A chunk's row `i` is row `512 (c/2) + 256 r + i` of the block. -/
theorem chunk_apply (c : Dev nD) (r : Fin 2) (a : Vec Ideal S1024x4096 .f32) (i : Fin 256) (k : Fin 4096) :
    chunk c r a (ix2 i k) = a (ix2 ⟨512 * (c.val / 2) + 256 * r.val + i.val, by have := div_le c; omega⟩ k) := by
  unfold chunk
  show a ((aR c r).toLoadRect.idx (ix2 i k)) = _
  refine congrArg a ?_
  funext x
  refine Fin.ext ?_
  match x with
  | ⟨0, _⟩ =>
    show (k0_off1 c (BitVec.ofNat 32 (256 * r.val))) 0 + 1 * i.val = _
    rw [k0_off1_eq]; show (512 * (c.val / 2) + 256 * r.val) + 1 * i.val = 512 * (c.val / 2) + 256 * r.val + i.val; omega
  | ⟨1, _⟩ =>
    show (k0_off1 c (BitVec.ofNat 32 (256 * r.val))) 1 + 1 * k.val = _
    rw [k0_off1_eq]; show 0 + 1 * k.val = k.val; omega

/-- A block product into zero, its rows by its columns' rows. -/
theorem product_apply (v : FVec Ideal S256x4096 .f32) (w : FVec Ideal S1024x4096 .f32) (i : Fin 256) (s : Fin 1024) :
    matmul dot_S256x4096_S1024x4096_S256x1024_1_1_0_0_n_n none v w (constant S256x1024 .f32 0x00000000#32) (ix2 i s)
      = ∑ k : Fin 4096, v (ix2 i k) * w (ix2 s k) := by
  refine (Ideal.matmul_transposedRhs_apply none v w _ i s).trans ?_
  show Ideal.ofBits .f32 0x00000000#32 + _ = _
  rw [Ideal.ofBits_zero_f32, zero_add]

theorem pay1_apply (v : Vec Ideal S256x4096 .f32) (w : Vec Ideal S1024x4096 .f32) (i : Fin 256) (s : Fin 1024) :
    k0_pay1 v w (ix2 i s) = ∑ k : Fin 4096, v (ix2 i k) * w (ix2 s k) := by
  unfold k0_pay1
  simp only [shapeCast_self]
  exact product_apply v w i s
theorem pay3_apply (v : Vec Ideal S256x4096 .f32) (w : Vec Ideal S1024x4096 .f32) (i : Fin 256) (s : Fin 1024) :
    k0_pay3 (k0_pay2 v) w (ix2 i s) = ∑ k : Fin 4096, v (ix2 i k) * w (ix2 s k) := by
  unfold k0_pay3 k0_pay2
  simp only [shapeCast_self]
  exact product_apply v w i s

/-- The partial product of device `c`: row `i` is row `512 (c/2) + i` of its block of `dy` against the rows of its block of `W`. -/
theorem part_apply (c : Dev nD) (a w : Vec Ideal S1024x4096 .f32) (i : Fin 512) (s : Fin 1024) (r : Fin 1024)
    (hr : r.val = 512 * (c.val / 2) + i.val) :
    part c a w (ix2 i s) = ∑ k : Fin 4096, (a (ix2 r k) * w (ix2 s k) : EReal) := by
  unfold part
  by_cases h : i.val < 256
  · rw [dif_pos (show ((ix2 i s : S512x1024.Idx) 0).val < 256 from h)]
    refine (congrArg (k0_pay1 (chunk c 0 a) w) (pair_eq (⟨i.val, h⟩ : Fin 256) s)).trans ?_
    refine (pay1_apply _ w ⟨i.val, h⟩ s).trans (Finset.sum_congr rfl fun k _ => ?_)
    rw [chunk_apply]
    congr 3
    exact Fin.ext (by show 512 * (c.val / 2) + 256 * 0 + i.val = r.val; omega)
  · rw [dif_neg (show ¬ ((ix2 i s : S512x1024.Idx) 0).val < 256 from h)]
    refine (congrArg (k0_pay3 (k0_pay2 (chunk c 1 a)) w) (pair_eq (⟨i.val - 256, by omega⟩ : Fin 256) s)).trans ?_
    refine (pay3_apply _ w ⟨i.val - 256, by omega⟩ s).trans (Finset.sum_congr rfl fun k _ => ?_)
    rw [chunk_apply]
    congr 3
    exact Fin.ext (by show 512 * (c.val / 2) + 256 * 1 + (i.val - 256) = r.val; omega)

/-! ## The whole product -/

/-- Which half of the columns device `c` holds. -/
def colHalf (c : Dev nD) : Fin 2 := ⟨c.val % 2, Nat.mod_lt _ (by decide)⟩
theorem colHalf_yp (c : Dev nD) : colHalf c ≠ colHalf (yp c) := by revert c; decide
theorem yp_div (c : Dev nD) : (yp c).val / 2 = c.val / 2 := by revert c; decide

/-- The shape of the whole arrays. -/
abbrev SX : Shape := ⟨2, ![1024, 8192]⟩

/-- The product of the whole arrays. -/
def prod (X Y : SX.Idx → EReal) : S1024x1024.Idx → EReal := fun i =>
  ∑ k : Fin 8192, X (ix2 (i 0) k) * Y (ix2 (i 1) k)

variable (A W : Dev nD → Vec Ideal S1024x4096 .f32) (X Y : SX.Idx → EReal)

/-- If every device's blocks are its halves of the columns of `X` and `Y`, its result is the product of `X` with `Y` transposed. -/
theorem out_eq_prod (hA : ∀ c r k, A c (ix2 r k) = X (ix2 r (inHalf (colHalf c) k)))
    (hW : ∀ c r k, W c (ix2 r k) = Y (ix2 r (inHalf (colHalf c) k))) (c : Dev nD) : out A W c = prod X Y := by
  funext i
  obtain ⟨r, s, rfl⟩ : ∃ (r s : Fin 1024), i = ix2 r s := ⟨i 0, i 1, eq_ix2 i⟩
  refine (congrArg (half A W (rowDev c r)) (pair_eq (⟨r.val % 512, Nat.mod_lt _ (by decide)⟩ : Fin 512) s)).trans ?_
  have hd : r.val = 512 * ((rowDev c r).val / 2) + r.val % 512 := by
    have h1 := xp_div c
    have h2 := div_le c
    have h3 : r.val / 512 ≤ 1 := by have := r.isLt; omega
    unfold rowDev
    by_cases h : r.val / 512 = c.val / 2
    · rw [if_pos h]; omega
    · rw [if_neg h, h1]; omega
  unfold half
  rw [addf_apply, part_apply _ _ _ _ _ r hd, part_apply _ _ _ _ _ r (by rw [yp_div]; exact hd)]
  simp only [hA, hW]
  exact sum_halves_of (fun k => X (ix2 r k) * Y (ix2 s k)) _ _ (colHalf_yp _)

/-- A device's block of an array cut along its columns. -/
theorem block_apply (c : Dev nD) (X : SX.Idx → EReal) (r : Fin 1024) (k : Fin 4096)
    (h : Layout.TilesN ⟨2, ![1024, 4096]⟩ ⟨2, ![1024, 8192]⟩ fun b => Layout.cutSize [2, 2] ((![[], [1]] : Fin 2 → List ℕ) b)) :
    Layout.blockN ⟨2, ![1024, 4096]⟩ ⟨2, ![1024, 8192]⟩ (Layout.meshBlock [2, 2] ![[], [1]] c) X h (ix2 r k) = X (ix2 r (inHalf (colHalf c) k)) := by
  rw [Layout.blockN_apply]
  refine congrArg X ?_
  funext x
  refine Fin.ext ?_
  match x with
  | ⟨0, _⟩ =>
    show 0 * 1024 + r.val = r.val; omega
  | ⟨1, _⟩ =>
    show (c.val / 1 % 2 * 1 + 0) * 4096 + k.val = c.val % 2 * 4096 + k.val
    omega

/-- The reference's product is that product. -/
theorem ref_eq_prod (X Y : Vec Ideal SX .f32) :
    truncf (F := Ideal) .bf16 (Host.dotGeneral (φ₁ := .f32) (φ₂ := .f32) Cert.ReferenceIdeal.dot_S1024x8192_S8192x1024_S1024x1024_1_0_0_1_n_n none X
      (transpose (α := EReal) Cert.ReferenceIdeal.S8192x1024 [1, 0] Y Cert.ReferenceIdeal.Gen.transposes_S1024x8192_S8192x1024_1_0)) Cert.ReferenceIdeal.Gen.bitsLt_bf16_f32
      = prod X Y := by
  funext i
  obtain ⟨r, s, rfl⟩ : ∃ (r s : Fin 1024), i = ix2 r s := ⟨i 0, i 1, eq_ix2 i⟩
  refine (StackMember.dotGeneral_plain_apply (φ₁ := .f32) (φ₂ := .f32) (m := 1024) (n := 1024) (k := 8192) none X _ r s).trans (Finset.sum_congr rfl fun k _ => ?_)
  congr 1
  exact transpose_apply _ Y _ _ _ fun x => match x with | ⟨0, _⟩ => rfl | ⟨1, _⟩ => rfl

end Cert.Dcol

end
-- ==== Proof.lean ====
/-
The proof of `Cert.Claim` (Defs.lean): the kernel and its idealization run, leave their arguments unchanged and every
semaphore at zero; so does the reference; and over the extended reals each device's result is the reference's result.
The device's protocol and the launch are in Proof/Launch.lean and the modules below it, the values in Proof/Value.lean;
here the claims are assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init
public import Idealize.ShloMosaic.Lib.Claim

@[expose] public section

noncomputable section

namespace Cert.Proof

open Idealize.ShloMosaic Idealize.ShloMosaic.ValueIdx Idealize.SL.Sem

/-- The kernel and its idealization run the same bodies, -/
theorem bodies_eq : Cert.Kernel.defs₀ (F := Bits) = Cert.KernelIdeal.defs₀ (F := Bits) :=
  congrArg Defs.onTc (funext fun l => funext fun a => by
    match l, a with
    | 0, (t, s) => rfl)

/-- and the same pipeline around them. -/
theorem defs_eq : Cert.Kernel.defs (F := Bits) = Cert.KernelIdeal.defs (F := Bits) :=
  congrArg (Pipeline.defs (Cert.KernelIdeal.pcfgs (F := Bits))) bodies_eq

/-- The kernel, on bit patterns: it ends, nothing faults, its arguments are unchanged and every semaphore reads zero.
    Its text is the idealization's, so the run proved for any values serves. -/
theorem frame_kernel : Cert.quiescent_Kernel := fun m ρ _ => by
  rw [defs_eq]
  exact (θ_run Cert.KernelIdeal.defs _ _).mono
    (fun _ h => ⟨fun c => ⟨(h.1 c 0).trans (Cert.Dcol.finalA_arg0 m ρ c), (h.1 c 1).trans (Cert.Dcol.finalA_arg1 m ρ c)⟩, h.2⟩)
    (Cert.Dcol.run_main (F := Bits) m ρ)

/-- The same of its idealization, on extended reals. -/
theorem frame_ideal : Cert.quiescent_KernelIdeal := fun m ρ _ =>
  (θ_run Cert.KernelIdeal.defs _ _).mono
    (fun _ h => ⟨fun c => ⟨(h.1 c 0).trans (Cert.Dcol.finalA_arg0 m ρ c), (h.1 c 1).trans (Cert.Dcol.finalA_arg1 m ρ c)⟩, h.2⟩)
    (Cert.Dcol.run_main (F := Ideal) m ρ)

/-- The same of the reference, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals every device ends with the whole product of `dy` with `W` transposed, which is what the
    reference computes, where each device starts with its half of the columns of both. -/
theorem algebraic : Cert.algebraic_KernelIdeal_ReferenceIdeal := by
  intro m ρ m' ρ' _ hagree
  let X : Cert.Dcol.SX.Idx → EReal := m' (((0 : Dev Cert.ReferenceIdeal.nD).tc : Thread _ Cert.ReferenceIdeal.τ).loc Cert.ReferenceIdeal.main_arg0)
  let Y : Cert.Dcol.SX.Idx → EReal := m' (((0 : Dev Cert.ReferenceIdeal.nD).tc : Thread _ Cert.ReferenceIdeal.τ).loc Cert.ReferenceIdeal.main_arg1)
  refine ⟨Cert.Dcol.prod X Y, ?_, ?_⟩
  · refine (θ_run Cert.KernelIdeal.defs _ _).mono (fun _ h c => ⟨(h.1 c 2).trans ?_,
      (h.1 c 0).trans (Cert.Dcol.finalA_arg0 m ρ c), (h.1 c 1).trans (Cert.Dcol.finalA_arg1 m ρ c)⟩)
      (Cert.Dcol.run_main (F := Ideal) m ρ)
    refine (Cert.Dcol.finalA_out m ρ c).trans (Cert.Dcol.out_eq_prod _ _ X Y (fun c r k => ?_) (fun c r k => ?_) c)
    · exact (congrFun ((Cert.Dcol.stA_eq m ρ c).trans (hagree c).1) (ix2 r k)).trans (Cert.Dcol.block_apply c X r k _)
    · exact (congrFun ((Cert.Dcol.stW_eq m ρ c).trans (hagree c).2) (ix2 r k)).trans (Cert.Dcol.block_apply c Y r k _)
  · exact (θ_run Cert.ReferenceIdeal.defs _ _).mono
      (fun _ h => ⟨(h 0).1.trans (Cert.Dcol.ref_eq_prod X Y), (h 0).2⟩)
      (Cert.ReferenceIdeal.Value.run (F := Ideal) m' ρ')

/-- All the claims together. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
